-- ==== Defs.lean ====
def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def Pre_Products (m : (ℓ : Loc Cert.Products.nD Cert.Products.τ Cert.Products.sig) → Buf (Elt Bits) ℓ) : Prop :=
  True

def Pre_ProductsIdeal (m : (ℓ : Loc Cert.ProductsIdeal.nD Cert.ProductsIdeal.τ Cert.ProductsIdeal.sig) → Buf (Elt Ideal) ℓ) : Prop :=
  True

def Pre_ProductsReferenceIdeal (m : (ℓ : Loc Cert.ProductsReferenceIdeal.nD Cert.ProductsReferenceIdeal.τ Cert.ProductsReferenceIdeal.sig) → Buf (Elt Ideal) ℓ) : Prop :=
  True

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9)
      ∧ r.2.mem ((c.tc : Thread Cert.Finish.nD Cert.Finish.τ).loc Cert.Finish.main_arg10) = m ((c.tc : Thread Cert.Finish.nD Cert.Finish.τ).loc Cert.Finish.main_arg10)
      ∧ r.2.mem ((c.tc : Thread Cert.Finish.nD Cert.Finish.τ).loc Cert.Finish.main_arg11) = m ((c.tc : Thread Cert.Finish.nD Cert.Finish.τ).loc Cert.Finish.main_arg11)
      ∧ r.2.mem ((c.tc : Thread Cert.Finish.nD Cert.Finish.τ).loc Cert.Finish.main_arg12) = m ((c.tc : Thread Cert.Finish.nD Cert.Finish.τ).loc Cert.Finish.main_arg12))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
      ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
      ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11)
      ∧ r.2.mem ((c.tc : Thread Cert.FinishIdeal.nD Cert.FinishIdeal.τ).loc Cert.FinishIdeal.main_arg12) = m ((c.tc : Thread Cert.FinishIdeal.nD Cert.FinishIdeal.τ).loc Cert.FinishIdeal.main_arg12))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7)
      ∧ r.2.mem ((c.tc : Thread Cert.FinishReferenceIdeal.nD Cert.FinishReferenceIdeal.τ).loc Cert.FinishReferenceIdeal.main_arg8) = m ((c.tc : Thread Cert.FinishReferenceIdeal.nD Cert.FinishReferenceIdeal.τ).loc Cert.FinishReferenceIdeal.main_arg8)
      ∧ r.2.mem ((c.tc : Thread Cert.FinishReferenceIdeal.nD Cert.FinishReferenceIdeal.τ).loc Cert.FinishReferenceIdeal.main_arg9) = m ((c.tc : Thread Cert.FinishReferenceIdeal.nD Cert.FinishReferenceIdeal.τ).loc Cert.FinishReferenceIdeal.main_arg9)
      ∧ r.2.mem ((c.tc : Thread Cert.FinishReferenceIdeal.nD Cert.FinishReferenceIdeal.τ).loc Cert.FinishReferenceIdeal.main_arg10) = m ((c.tc : Thread Cert.FinishReferenceIdeal.nD Cert.FinishReferenceIdeal.τ).loc Cert.FinishReferenceIdeal.main_arg10)
      ∧ r.2.mem ((c.tc : Thread Cert.FinishReferenceIdeal.nD Cert.FinishReferenceIdeal.τ).loc Cert.FinishReferenceIdeal.main_arg11) = m ((c.tc : Thread Cert.FinishReferenceIdeal.nD Cert.FinishReferenceIdeal.τ).loc Cert.FinishReferenceIdeal.main_arg11)
      ∧ r.2.mem ((c.tc : Thread Cert.FinishReferenceIdeal.nD Cert.FinishReferenceIdeal.τ).loc Cert.FinishReferenceIdeal.main_arg12) = m ((c.tc : Thread Cert.FinishReferenceIdeal.nD Cert.FinishReferenceIdeal.τ).loc Cert.FinishReferenceIdeal.main_arg12))
      ∧ r.2.sem = fun _ => 0)

def quiescent_Products [hProducts : Cert.Products.Facts] : Prop :=
  ∀ (m : (ℓ : Loc Cert.Products.nD Cert.Products.τ Cert.Products.sig) → Buf (Elt Bits) ℓ) (g : Dev Cert.Products.nD → PrngReg), Pre_Products m →
    θ_run (Cert.Products.defs (F := Bits)) (onTc (τ := Cert.Products.τ) (Cert.Products.main (F := Bits))) ⟨m, fun _ => 0, g⟩ (fun r => (∀ c : Dev Cert.Products.nD,
      r.2.mem ((c.tc : Thread Cert.Products.nD Cert.Products.τ).loc Cert.Products.main_arg0) = m ((c.tc : Thread Cert.Products.nD Cert.Products.τ).loc Cert.Products.main_arg0)
      ∧ r.2.mem ((c.tc : Thread Cert.Products.nD Cert.Products.τ).loc Cert.Products.main_arg1) = m ((c.tc : Thread Cert.Products.nD Cert.Products.τ).loc Cert.Products.main_arg1)
      ∧ r.2.mem ((c.tc : Thread Cert.Products.nD Cert.Products.τ).loc Cert.Products.main_arg2) = m ((c.tc : Thread Cert.Products.nD Cert.Products.τ).loc Cert.Products.main_arg2))
      ∧ r.2.sem = fun _ => 0)

def quiescent_ProductsIdeal [hProductsIdeal : Cert.ProductsIdeal.Facts] : Prop :=
  ∀ (m : (ℓ : Loc Cert.ProductsIdeal.nD Cert.ProductsIdeal.τ Cert.ProductsIdeal.sig) → Buf (Elt Ideal) ℓ) (g : Dev Cert.ProductsIdeal.nD → PrngReg), Pre_ProductsIdeal m →
    θ_run (Cert.ProductsIdeal.defs (F := Ideal)) (onTc (τ := Cert.ProductsIdeal.τ) (Cert.ProductsIdeal.main (F := Ideal))) ⟨m, fun _ => 0, g⟩ (fun r => (∀ c : Dev Cert.ProductsIdeal.nD,
      r.2.mem ((c.tc : Thread Cert.ProductsIdeal.nD Cert.ProductsIdeal.τ).loc Cert.ProductsIdeal.main_arg0) = m ((c.tc : Thread Cert.ProductsIdeal.nD Cert.ProductsIdeal.τ).loc Cert.ProductsIdeal.main_arg0)
      ∧ r.2.mem ((c.tc : Thread Cert.ProductsIdeal.nD Cert.ProductsIdeal.τ).loc Cert.ProductsIdeal.main_arg1) = m ((c.tc : Thread Cert.ProductsIdeal.nD Cert.ProductsIdeal.τ).loc Cert.ProductsIdeal.main_arg1)
      ∧ r.2.mem ((c.tc : Thread Cert.ProductsIdeal.nD Cert.ProductsIdeal.τ).loc Cert.ProductsIdeal.main_arg2) = m ((c.tc : Thread Cert.ProductsIdeal.nD Cert.ProductsIdeal.τ).loc Cert.ProductsIdeal.main_arg2))
      ∧ r.2.sem = fun _ => 0)

def quiescent_ProductsReferenceIdeal [hProductsReferenceIdeal : Cert.ProductsReferenceIdeal.Facts] : Prop :=
  ∀ (m : (ℓ : Loc Cert.ProductsReferenceIdeal.nD Cert.ProductsReferenceIdeal.τ Cert.ProductsReferenceIdeal.sig) → Buf (Elt Ideal) ℓ) (g : Dev Cert.ProductsReferenceIdeal.nD → PrngReg), Pre_ProductsReferenceIdeal m →
    θ_run (Cert.ProductsReferenceIdeal.defs (F := Ideal)) (onTc (τ := Cert.ProductsReferenceIdeal.τ) (Cert.ProductsReferenceIdeal.main (F := Ideal))) ⟨m, fun _ => 0, g⟩ (fun r => (∀ c : Dev Cert.ProductsReferenceIdeal.nD,
      r.2.mem ((c.tc : Thread Cert.ProductsReferenceIdeal.nD Cert.ProductsReferenceIdeal.τ).loc Cert.ProductsReferenceIdeal.main_arg0) = m ((c.tc : Thread Cert.ProductsReferenceIdeal.nD Cert.ProductsReferenceIdeal.τ).loc Cert.ProductsReferenceIdeal.main_arg0)
      ∧ r.2.mem ((c.tc : Thread Cert.ProductsReferenceIdeal.nD Cert.ProductsReferenceIdeal.τ).loc Cert.ProductsReferenceIdeal.main_arg1) = m ((c.tc : Thread Cert.ProductsReferenceIdeal.nD Cert.ProductsReferenceIdeal.τ).loc Cert.ProductsReferenceIdeal.main_arg1)
      ∧ r.2.mem ((c.tc : Thread Cert.ProductsReferenceIdeal.nD Cert.ProductsReferenceIdeal.τ).loc Cert.ProductsReferenceIdeal.main_arg2) = m ((c.tc : Thread Cert.ProductsReferenceIdeal.nD Cert.ProductsReferenceIdeal.τ).loc Cert.ProductsReferenceIdeal.main_arg2))
      ∧ r.2.sem = fun _ => 0)

def preserves_Finish_FinishIdeal : Prop :=
  True

def algebraic_FinishIdeal_FinishReferenceIdeal [hFinishIdeal : Cert.FinishIdeal.Facts] [hFinishReferenceIdeal : Cert.FinishReferenceIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)
      ∧ m' ((c.tc : Thread Cert.FinishReferenceIdeal.nD Cert.FinishReferenceIdeal.τ).loc Cert.FinishReferenceIdeal.main_arg5) = m ((c.tc : Thread Cert.FinishIdeal.nD Cert.FinishIdeal.τ).loc Cert.FinishIdeal.main_arg5)
      ∧ m' ((c.tc : Thread Cert.FinishReferenceIdeal.nD Cert.FinishReferenceIdeal.τ).loc Cert.FinishReferenceIdeal.main_arg6) = m ((c.tc : Thread Cert.FinishIdeal.nD Cert.FinishIdeal.τ).loc Cert.FinishIdeal.main_arg6)
      ∧ m' ((c.tc : Thread Cert.FinishReferenceIdeal.nD Cert.FinishReferenceIdeal.τ).loc Cert.FinishReferenceIdeal.main_arg7) = m ((c.tc : Thread Cert.FinishIdeal.nD Cert.FinishIdeal.τ).loc Cert.FinishIdeal.main_arg7)
      ∧ m' ((c.tc : Thread Cert.FinishReferenceIdeal.nD Cert.FinishReferenceIdeal.τ).loc Cert.FinishReferenceIdeal.main_arg8) = m ((c.tc : Thread Cert.FinishIdeal.nD Cert.FinishIdeal.τ).loc Cert.FinishIdeal.main_arg8)
      ∧ m' ((c.tc : Thread Cert.FinishReferenceIdeal.nD Cert.FinishReferenceIdeal.τ).loc Cert.FinishReferenceIdeal.main_arg9) = m ((c.tc : Thread Cert.FinishIdeal.nD Cert.FinishIdeal.τ).loc Cert.FinishIdeal.main_arg9)
      ∧ m' ((c.tc : Thread Cert.FinishReferenceIdeal.nD Cert.FinishReferenceIdeal.τ).loc Cert.FinishReferenceIdeal.main_arg10) = m ((c.tc : Thread Cert.FinishIdeal.nD Cert.FinishIdeal.τ).loc Cert.FinishIdeal.main_arg10)
      ∧ m' ((c.tc : Thread Cert.FinishReferenceIdeal.nD Cert.FinishReferenceIdeal.τ).loc Cert.FinishReferenceIdeal.main_arg11) = m ((c.tc : Thread Cert.FinishIdeal.nD Cert.FinishIdeal.τ).loc Cert.FinishIdeal.main_arg11)
      ∧ m' ((c.tc : Thread Cert.FinishReferenceIdeal.nD Cert.FinishReferenceIdeal.τ).loc Cert.FinishReferenceIdeal.main_arg12) = m ((c.tc : Thread Cert.FinishIdeal.nD Cert.FinishIdeal.τ).loc Cert.FinishIdeal.main_arg12)) →
    ∃ (v0 : (c : Dev Cert.FinishIdeal.nD) → Buf (Elt Ideal) ((c.tc : Thread Cert.FinishIdeal.nD Cert.FinishIdeal.τ).loc Cert.FinishIdeal.main_v4_0)) (v1 : (c : Dev Cert.FinishIdeal.nD) → Buf (Elt Ideal) ((c.tc : Thread Cert.FinishIdeal.nD Cert.FinishIdeal.τ).loc Cert.FinishIdeal.main_v4_1)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v4_0) = v0 c
          ∧ r.2.mem ((c.tc : Thread Cert.FinishIdeal.nD Cert.FinishIdeal.τ).loc Cert.FinishIdeal.main_v4_1) = v1 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
          ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
          ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11)
          ∧ r.2.mem ((c.tc : Thread Cert.FinishIdeal.nD Cert.FinishIdeal.τ).loc Cert.FinishIdeal.main_arg12) = m ((c.tc : Thread Cert.FinishIdeal.nD Cert.FinishIdeal.τ).loc Cert.FinishIdeal.main_arg12))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v6_0) = v0 c
          ∧ r.2.mem ((c.tc : Thread Cert.FinishReferenceIdeal.nD Cert.FinishReferenceIdeal.τ).loc Cert.FinishReferenceIdeal.main_v6_1) = v1 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4)
          ∧ r.2.mem ((c.tc : Thread Cert.FinishReferenceIdeal.nD Cert.FinishReferenceIdeal.τ).loc Cert.FinishReferenceIdeal.main_arg5) = m' ((c.tc : Thread Cert.FinishReferenceIdeal.nD Cert.FinishReferenceIdeal.τ).loc Cert.FinishReferenceIdeal.main_arg5)
          ∧ r.2.mem ((c.tc : Thread Cert.FinishReferenceIdeal.nD Cert.FinishReferenceIdeal.τ).loc Cert.FinishReferenceIdeal.main_arg6) = m' ((c.tc : Thread Cert.FinishReferenceIdeal.nD Cert.FinishReferenceIdeal.τ).loc Cert.FinishReferenceIdeal.main_arg6)
          ∧ r.2.mem ((c.tc : Thread Cert.FinishReferenceIdeal.nD Cert.FinishReferenceIdeal.τ).loc Cert.FinishReferenceIdeal.main_arg7) = m' ((c.tc : Thread Cert.FinishReferenceIdeal.nD Cert.FinishReferenceIdeal.τ).loc Cert.FinishReferenceIdeal.main_arg7)
          ∧ r.2.mem ((c.tc : Thread Cert.FinishReferenceIdeal.nD Cert.FinishReferenceIdeal.τ).loc Cert.FinishReferenceIdeal.main_arg8) = m' ((c.tc : Thread Cert.FinishReferenceIdeal.nD Cert.FinishReferenceIdeal.τ).loc Cert.FinishReferenceIdeal.main_arg8)
          ∧ r.2.mem ((c.tc : Thread Cert.FinishReferenceIdeal.nD Cert.FinishReferenceIdeal.τ).loc Cert.FinishReferenceIdeal.main_arg9) = m' ((c.tc : Thread Cert.FinishReferenceIdeal.nD Cert.FinishReferenceIdeal.τ).loc Cert.FinishReferenceIdeal.main_arg9)
          ∧ r.2.mem ((c.tc : Thread Cert.FinishReferenceIdeal.nD Cert.FinishReferenceIdeal.τ).loc Cert.FinishReferenceIdeal.main_arg10) = m' ((c.tc : Thread Cert.FinishReferenceIdeal.nD Cert.FinishReferenceIdeal.τ).loc Cert.FinishReferenceIdeal.main_arg10)
          ∧ r.2.mem ((c.tc : Thread Cert.FinishReferenceIdeal.nD Cert.FinishReferenceIdeal.τ).loc Cert.FinishReferenceIdeal.main_arg11) = m' ((c.tc : Thread Cert.FinishReferenceIdeal.nD Cert.FinishReferenceIdeal.τ).loc Cert.FinishReferenceIdeal.main_arg11)
          ∧ r.2.mem ((c.tc : Thread Cert.FinishReferenceIdeal.nD Cert.FinishReferenceIdeal.τ).loc Cert.FinishReferenceIdeal.main_arg12) = m' ((c.tc : Thread Cert.FinishReferenceIdeal.nD Cert.FinishReferenceIdeal.τ).loc Cert.FinishReferenceIdeal.main_arg12))

def preserves_Products_ProductsIdeal : Prop :=
  True

def algebraic_ProductsIdeal_ProductsReferenceIdeal [hProductsIdeal : Cert.ProductsIdeal.Facts] [hProductsReferenceIdeal : Cert.ProductsReferenceIdeal.Facts] : Prop :=
  ∀ (m : (ℓ : Loc Cert.ProductsIdeal.nD Cert.ProductsIdeal.τ Cert.ProductsIdeal.sig) → Buf (Elt Ideal) ℓ) (g : Dev Cert.ProductsIdeal.nD → PrngReg)
    (m' : (ℓ : Loc Cert.ProductsReferenceIdeal.nD Cert.ProductsReferenceIdeal.τ Cert.ProductsReferenceIdeal.sig) → Buf (Elt Ideal) ℓ) (g' : Dev Cert.ProductsReferenceIdeal.nD → PrngReg), Pre_ProductsIdeal m →
    (∀ c : Dev Cert.ProductsIdeal.nD,
      m' ((c.tc : Thread Cert.ProductsReferenceIdeal.nD Cert.ProductsReferenceIdeal.τ).loc Cert.ProductsReferenceIdeal.main_arg0) = m ((c.tc : Thread Cert.ProductsIdeal.nD Cert.ProductsIdeal.τ).loc Cert.ProductsIdeal.main_arg0)
      ∧ m' ((c.tc : Thread Cert.ProductsReferenceIdeal.nD Cert.ProductsReferenceIdeal.τ).loc Cert.ProductsReferenceIdeal.main_arg1) = m ((c.tc : Thread Cert.ProductsIdeal.nD Cert.ProductsIdeal.τ).loc Cert.ProductsIdeal.main_arg1)
      ∧ m' ((c.tc : Thread Cert.ProductsReferenceIdeal.nD Cert.ProductsReferenceIdeal.τ).loc Cert.ProductsReferenceIdeal.main_arg2) = m ((c.tc : Thread Cert.ProductsIdeal.nD Cert.ProductsIdeal.τ).loc Cert.ProductsIdeal.main_arg2)) →
    ∃ (v0 : (c : Dev Cert.ProductsIdeal.nD) → Buf (Elt Ideal) ((c.tc : Thread Cert.ProductsIdeal.nD Cert.ProductsIdeal.τ).loc Cert.ProductsIdeal.main_v3)) (v1 : (c : Dev Cert.ProductsIdeal.nD) → Buf (Elt Ideal) ((c.tc : Thread Cert.ProductsIdeal.nD Cert.ProductsIdeal.τ).loc Cert.ProductsIdeal.main_v4)) (v2 : (c : Dev Cert.ProductsIdeal.nD) → Buf (Elt Ideal) ((c.tc : Thread Cert.ProductsIdeal.nD Cert.ProductsIdeal.τ).loc Cert.ProductsIdeal.main_v5)) (v3 : (c : Dev Cert.ProductsIdeal.nD) → Buf (Elt Ideal) ((c.tc : Thread Cert.ProductsIdeal.nD Cert.ProductsIdeal.τ).loc Cert.ProductsIdeal.main_v6)) (v4 : (c : Dev Cert.ProductsIdeal.nD) → Buf (Elt Ideal) ((c.tc : Thread Cert.ProductsIdeal.nD Cert.ProductsIdeal.τ).loc Cert.ProductsIdeal.main_v7)) (v5 : (c : Dev Cert.ProductsIdeal.nD) → Buf (Elt Ideal) ((c.tc : Thread Cert.ProductsIdeal.nD Cert.ProductsIdeal.τ).loc Cert.ProductsIdeal.main_v8)) (v6 : (c : Dev Cert.ProductsIdeal.nD) → Buf (Elt Ideal) ((c.tc : Thread Cert.ProductsIdeal.nD Cert.ProductsIdeal.τ).loc Cert.ProductsIdeal.main_v9)) (v7 : (c : Dev Cert.ProductsIdeal.nD) → Buf (Elt Ideal) ((c.tc : Thread Cert.ProductsIdeal.nD Cert.ProductsIdeal.τ).loc Cert.ProductsIdeal.main_v10)),
      θ_run (Cert.ProductsIdeal.defs (F := Ideal)) (onTc (τ := Cert.ProductsIdeal.τ) (Cert.ProductsIdeal.main (F := Ideal))) ⟨m, fun _ => 0, g⟩ (fun r => ∀ c : Dev Cert.ProductsIdeal.nD,
          r.2.mem ((c.tc : Thread Cert.ProductsIdeal.nD Cert.ProductsIdeal.τ).loc Cert.ProductsIdeal.main_v3) = v0 c
          ∧ r.2.mem ((c.tc : Thread Cert.ProductsIdeal.nD Cert.ProductsIdeal.τ).loc Cert.ProductsIdeal.main_v4) = v1 c
          ∧ r.2.mem ((c.tc : Thread Cert.ProductsIdeal.nD Cert.ProductsIdeal.τ).loc Cert.ProductsIdeal.main_v5) = v2 c
          ∧ r.2.mem ((c.tc : Thread Cert.ProductsIdeal.nD Cert.ProductsIdeal.τ).loc Cert.ProductsIdeal.main_v6) = v3 c
          ∧ r.2.mem ((c.tc : Thread Cert.ProductsIdeal.nD Cert.ProductsIdeal.τ).loc Cert.ProductsIdeal.main_v7) = v4 c
          ∧ r.2.mem ((c.tc : Thread Cert.ProductsIdeal.nD Cert.ProductsIdeal.τ).loc Cert.ProductsIdeal.main_v8) = v5 c
          ∧ r.2.mem ((c.tc : Thread Cert.ProductsIdeal.nD Cert.ProductsIdeal.τ).loc Cert.ProductsIdeal.main_v9) = v6 c
          ∧ r.2.mem ((c.tc : Thread Cert.ProductsIdeal.nD Cert.ProductsIdeal.τ).loc Cert.ProductsIdeal.main_v10) = v7 c
          ∧ r.2.mem ((c.tc : Thread Cert.ProductsIdeal.nD Cert.ProductsIdeal.τ).loc Cert.ProductsIdeal.main_arg0) = m ((c.tc : Thread Cert.ProductsIdeal.nD Cert.ProductsIdeal.τ).loc Cert.ProductsIdeal.main_arg0)
          ∧ r.2.mem ((c.tc : Thread Cert.ProductsIdeal.nD Cert.ProductsIdeal.τ).loc Cert.ProductsIdeal.main_arg1) = m ((c.tc : Thread Cert.ProductsIdeal.nD Cert.ProductsIdeal.τ).loc Cert.ProductsIdeal.main_arg1)
          ∧ r.2.mem ((c.tc : Thread Cert.ProductsIdeal.nD Cert.ProductsIdeal.τ).loc Cert.ProductsIdeal.main_arg2) = m ((c.tc : Thread Cert.ProductsIdeal.nD Cert.ProductsIdeal.τ).loc Cert.ProductsIdeal.main_arg2))
      ∧ θ_run (Cert.ProductsReferenceIdeal.defs (F := Ideal)) (onTc (τ := Cert.ProductsReferenceIdeal.τ) (Cert.ProductsReferenceIdeal.main (F := Ideal))) ⟨m', fun _ => 0, g'⟩ (fun r => ∀ c : Dev Cert.ProductsReferenceIdeal.nD,
          r.2.mem ((c.tc : Thread Cert.ProductsReferenceIdeal.nD Cert.ProductsReferenceIdeal.τ).loc Cert.ProductsReferenceIdeal.main_v0_0) = v0 c
          ∧ r.2.mem ((c.tc : Thread Cert.ProductsReferenceIdeal.nD Cert.ProductsReferenceIdeal.τ).loc Cert.ProductsReferenceIdeal.main_v0_1) = v1 c
          ∧ r.2.mem ((c.tc : Thread Cert.ProductsReferenceIdeal.nD Cert.ProductsReferenceIdeal.τ).loc Cert.ProductsReferenceIdeal.main_v0_2) = v2 c
          ∧ r.2.mem ((c.tc : Thread Cert.ProductsReferenceIdeal.nD Cert.ProductsReferenceIdeal.τ).loc Cert.ProductsReferenceIdeal.main_v0_3) = v3 c
          ∧ r.2.mem ((c.tc : Thread Cert.ProductsReferenceIdeal.nD Cert.ProductsReferenceIdeal.τ).loc Cert.ProductsReferenceIdeal.main_v0_4) = v4 c
          ∧ r.2.mem ((c.tc : Thread Cert.ProductsReferenceIdeal.nD Cert.ProductsReferenceIdeal.τ).loc Cert.ProductsReferenceIdeal.main_v0_5) = v5 c
          ∧ r.2.mem ((c.tc : Thread Cert.ProductsReferenceIdeal.nD Cert.ProductsReferenceIdeal.τ).loc Cert.ProductsReferenceIdeal.main_v0_6) = v6 c
          ∧ r.2.mem ((c.tc : Thread Cert.ProductsReferenceIdeal.nD Cert.ProductsReferenceIdeal.τ).loc Cert.ProductsReferenceIdeal.main_v0_7) = v7 c
          ∧ r.2.mem ((c.tc : Thread Cert.ProductsReferenceIdeal.nD Cert.ProductsReferenceIdeal.τ).loc Cert.ProductsReferenceIdeal.main_arg0) = m' ((c.tc : Thread Cert.ProductsReferenceIdeal.nD Cert.ProductsReferenceIdeal.τ).loc Cert.ProductsReferenceIdeal.main_arg0)
          ∧ r.2.mem ((c.tc : Thread Cert.ProductsReferenceIdeal.nD Cert.ProductsReferenceIdeal.τ).loc Cert.ProductsReferenceIdeal.main_arg1) = m' ((c.tc : Thread Cert.ProductsReferenceIdeal.nD Cert.ProductsReferenceIdeal.τ).loc Cert.ProductsReferenceIdeal.main_arg1)
          ∧ r.2.mem ((c.tc : Thread Cert.ProductsReferenceIdeal.nD Cert.ProductsReferenceIdeal.τ).loc Cert.ProductsReferenceIdeal.main_arg2) = m' ((c.tc : Thread Cert.ProductsReferenceIdeal.nD Cert.ProductsReferenceIdeal.τ).loc Cert.ProductsReferenceIdeal.main_arg2))

def Claim : Prop :=
  ∃ (hFinish : Cert.Finish.Facts) (hFinishIdeal : Cert.FinishIdeal.Facts) (hFinishReferenceIdeal : Cert.FinishReferenceIdeal.Facts) (hProducts : Cert.Products.Facts) (hProductsIdeal : Cert.ProductsIdeal.Facts) (hProductsReferenceIdeal : Cert.ProductsReferenceIdeal.Facts),
    quiescent_Finish (hFinish := hFinish)
    ∧ quiescent_FinishIdeal (hFinishIdeal := hFinishIdeal)
    ∧ quiescent_FinishReferenceIdeal (hFinishReferenceIdeal := hFinishReferenceIdeal)
    ∧ quiescent_Products (hProducts := hProducts)
    ∧ quiescent_ProductsIdeal (hProductsIdeal := hProductsIdeal)
    ∧ quiescent_ProductsReferenceIdeal (hProductsReferenceIdeal := hProductsReferenceIdeal)
    ∧ preserves_Finish_FinishIdeal
    ∧ algebraic_FinishIdeal_FinishReferenceIdeal (hFinishIdeal := hFinishIdeal) (hFinishReferenceIdeal := hFinishReferenceIdeal)
    ∧ preserves_Products_ProductsIdeal
    ∧ algebraic_ProductsIdeal_ProductsReferenceIdeal (hProductsIdeal := hProductsIdeal) (hProductsReferenceIdeal := hProductsReferenceIdeal)
-- ==== Finish.lean ====
abbrev S32768x1024 : Shape := ⟨2, ![32768, 1024]⟩
abbrev S32768 : Shape := ⟨1, ![32768]⟩
abbrev S1024x192 : Shape := ⟨2, ![1024, 192]⟩
abbrev S192 : Shape := ⟨1, ![192]⟩
abbrev S8192x128 : Shape := ⟨2, ![8192, 128]⟩
abbrev S192x1024 : Shape := ⟨2, ![192, 1024]⟩
abbrev S192x1 : Shape := ⟨2, ![192, 1]⟩
abbrev S64x1x512 : Shape := ⟨3, ![64, 1, 512]⟩
abbrev S192x32768 : Shape := ⟨2, ![192, 32768]⟩
abbrev S512x1024 : Shape := ⟨2, ![512, 1024]⟩
abbrev S1x1x512 : Shape := ⟨3, ![1, 1, 512]⟩
abbrev S1024x128 : Shape := ⟨2, ![1024, 128]⟩
abbrev S192x512 : Shape := ⟨2, ![192, 512]⟩
abbrev S1x512 : Shape := ⟨2, ![1, 512]⟩
abbrev S512x128 : Shape := ⟨2, ![512, 128]⟩
abbrev S128x512 : Shape := ⟨2, ![128, 512]⟩
abbrev S64x512 : Shape := ⟨2, ![64, 512]⟩

abbrev nBuf : Space → Nat
  | .hbm => 19
  | .vmem => 27
  | .smem => 0
  | _ => 0

abbrev bufTy : (tb : Table) → Fin (tcTables nBuf tb) → BufTy
  | .hbm, ⟨0, _⟩ => ⟨S32768x1024, .fp8e4m3⟩
  | .hbm, ⟨1, _⟩ => ⟨S32768, .f32⟩
  | .hbm, ⟨2, _⟩ => ⟨S1024x192, .fp8e4m3⟩
  | .hbm, ⟨3, _⟩ => ⟨S192, .f32⟩
  | .hbm, ⟨4, _⟩ => ⟨S192, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S192x1024, .fp8e4m3⟩
  | .hbm, ⟨14, _⟩ => ⟨S192x1, .f32⟩
  | .hbm, ⟨15, _⟩ => ⟨S192x1, .f32⟩
  | .hbm, ⟨16, _⟩ => ⟨S64x1x512, .f32⟩
  | .hbm, ⟨17, _⟩ => ⟨S192x32768, .bf16⟩
  | .hbm, ⟨18, _⟩ => ⟨S192x32768, .f32⟩
  | .local _ .vmem, ⟨0, _⟩ => ⟨S512x1024, .fp8e4m3⟩
  | .local _ .vmem, ⟨1, _⟩ => ⟨S512x1024, .fp8e4m3⟩
  | .local _ .vmem, ⟨2, _⟩ => ⟨S192x1024, .fp8e4m3⟩
  | .local _ .vmem, ⟨3, _⟩ => ⟨S192x1, .f32⟩
  | .local _ .vmem, ⟨4, _⟩ => ⟨S192x1, .f32⟩
  | .local _ .vmem, ⟨5, _⟩ => ⟨S1x1x512, .f32⟩
  | .local _ .vmem, ⟨6, _⟩ => ⟨S1x1x512, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S192x512, .bf16⟩
  | .local _ .vmem, ⟨24, _⟩ => ⟨S192x512, .bf16⟩
  | .local _ .vmem, ⟨25, _⟩ => ⟨S192x512, .f32⟩
  | .local _ .vmem, ⟨26, _⟩ => ⟨S192x512, .f32⟩
  | _, _ => ⟨S32768x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_10 : BitVec 32 := 0#32
  let v19 : BitVec 1 := Scalar.cmpi .slt arg0 c0_i32_10
  let v20 : BitVec 32 := Scalar.extui v19
  let v21 : BitVec 32 := Scalar.subi v18 v20
  let c8_i32 : BitVec 32 := 8#32
  let c0_i32_11 : BitVec 32 := 0#32
  let v22 : BitVec 1 := Scalar.cmpi .sgt c8_i32 c0_i32_11
  let v23 : BitVec 32 := Scalar.extui v22
  let c0_i32_12 : BitVec 32 := 0#32
  let v24 : BitVec 1 := Scalar.cmpi .slt c8_i32 c0_i32_12
  let v25 : BitVec 32 := Scalar.extui v24
  let v26 : BitVec 32 := Scalar.subi v23 v25
  let v27 : BitVec 1 := Scalar.cmpi .ne v21 v26
  let v28 : BitVec 32 := Scalar.remsi arg0 c8_i32
  let c0_i32_13 : BitVec 32 := 0#32
  let v29 : BitVec 1 := Scalar.cmpi .ne v28 c0_i32_13
  let v30 : BitVec 1 := Scalar.andi v27 v29
  let v16 : BitVec 32 := Scalar.divsi arg0 c8_i32
  let c1_i32 : BitVec 32 := 1#32
  let v31 : BitVec 32 := Scalar.subi v16 c1_i32
  let v32 : BitVec 32 := Scalar.select v30 v31 v16
  let c0_i32_14 : BitVec 32 := 0#32
  let v33 : BitVec 1 := Scalar.cmpi .eq v32 c0_i32_14
  let v34 : BitVec 32 := Scalar.extui v33
  let c0_i32_15 : BitVec 32 := 0#32
  let v35 : BitVec 1 := Scalar.cmpi .ne v34 c0_i32_15
  v35

def k0_cond2 (i : grid0.Coords) : BitVec 1 :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_10 : BitVec 32 := 0#32
  let v19 : BitVec 1 := Scalar.cmpi .slt arg0 c0_i32_10
  let v20 : BitVec 32 := Scalar.extui v19
  let v21 : BitVec 32 := Scalar.subi v18 v20
  let c8_i32 : BitVec 32 := 8#32
  let c0_i32_11 : BitVec 32 := 0#32
  let v22 : BitVec 1 := Scalar.cmpi .sgt c8_i32 c0_i32_11
  let v23 : BitVec 32 := Scalar.extui v22
  let c0_i32_12 : BitVec 32 := 0#32
  let v24 : BitVec 1 := Scalar.cmpi .slt c8_i32 c0_i32_12
  let v25 : BitVec 32 := Scalar.extui v24
  let v26 : BitVec 32 := Scalar.subi v23 v25
  let v27 : BitVec 1 := Scalar.cmpi .ne v21 v26
  let v28 : BitVec 32 := Scalar.remsi arg0 c8_i32
  let c0_i32_13 : BitVec 32 := 0#32
  let v29 : BitVec 1 := Scalar.cmpi .ne v28 c0_i32_13
  let v30 : BitVec 1 := Scalar.andi v27 v29
  let v16 : BitVec 32 := Scalar.divsi arg0 c8_i32
  let c1_i32 : BitVec 32 := 1#32
  let v31 : BitVec 32 := Scalar.subi v16 c1_i32
  let v32 : BitVec 32 := Scalar.select v30 v31 v16
  let c1_i32_16 : BitVec 32 := 1#32
  let v36 : BitVec 1 := Scalar.cmpi .eq v32 c1_i32_16
  let v37 : BitVec 32 := Scalar.extui v36
  let c0_i32_17 : BitVec 32 := 0#32
  let v38 : BitVec 1 := Scalar.cmpi .ne v37 c0_i32_17
  v38

def k0_cond3 (i : grid0.Coords) : BitVec 1 :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_10 : BitVec 32 := 0#32
  let v19 : BitVec 1 := Scalar.cmpi .slt arg0 c0_i32_10
  let v20 : BitVec 32 := Scalar.extui v19
  let v21 : BitVec 32 := Scalar.subi v18 v20
  let c8_i32 : BitVec 32 := 8#32
  let c0_i32_11 : BitVec 32 := 0#32
  let v22 : BitVec 1 := Scalar.cmpi .sgt c8_i32 c0_i32_11
  let v23 : BitVec 32 := Scalar.extui v22
  let c0_i32_12 : BitVec 32 := 0#32
  let v24 : BitVec 1 := Scalar.cmpi .slt c8_i32 c0_i32_12
  let v25 : BitVec 32 := Scalar.extui v24
  let v26 : BitVec 32 := Scalar.subi v23 v25
  let v27 : BitVec 1 := Scalar.cmpi .ne v21 v26
  let v28 : BitVec 32 := Scalar.remsi arg0 c8_i32
  let c0_i32_13 : BitVec 32 := 0#32
  let v29 : BitVec 1 := Scalar.cmpi .ne v28 c0_i32_13
  let v30 : BitVec 1 := Scalar.andi v27 v29
  let v16 : BitVec 32 := Scalar.divsi arg0 c8_i32
  let c1_i32 : BitVec 32 := 1#32
  let v31 : BitVec 32 := Scalar.subi v16 c1_i32
  let v32 : BitVec 32 := Scalar.select v30 v31 v16
  let c2_i32 : BitVec 32 := 2#32
  let v39 : BitVec 1 := Scalar.cmpi .eq v32 c2_i32
  let v40 : BitVec 32 := Scalar.extui v39
  let c0_i32_18 : BitVec 32 := 0#32
  let v41 : BitVec 1 := Scalar.cmpi .ne v40 c0_i32_18
  v41

def k0_cond4 (i : grid0.Coords) : BitVec 1 :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_10 : BitVec 32 := 0#32
  let v19 : BitVec 1 := Scalar.cmpi .slt arg0 c0_i32_10
  let v20 : BitVec 32 := Scalar.extui v19
  let v21 : BitVec 32 := Scalar.subi v18 v20
  let c8_i32 : BitVec 32 := 8#32
  let c0_i32_11 : BitVec 32 := 0#32
  let v22 : BitVec 1 := Scalar.cmpi .sgt c8_i32 c0_i32_11
  let v23 : BitVec 32 := Scalar.extui v22
  let c0_i32_12 : BitVec 32 := 0#32
  let v24 : BitVec 1 := Scalar.cmpi .slt c8_i32 c0_i32_12
  let v25 : BitVec 32 := Scalar.extui v24
  let v26 : BitVec 32 := Scalar.subi v23 v25
  let v27 : BitVec 1 := Scalar.cmpi .ne v21 v26
  let v28 : BitVec 32 := Scalar.remsi arg0 c8_i32
  let c0_i32_13 : BitVec 32 := 0#32
  let v29 : BitVec 1 := Scalar.cmpi .ne v28 c0_i32_13
  let v30 : BitVec 1 := Scalar.andi v27 v29
  let v16 : BitVec 32 := Scalar.divsi arg0 c8_i32
  let c1_i32 : BitVec 32 := 1#32
  let v31 : BitVec 32 := Scalar.subi v16 c1_i32
  let v32 : BitVec 32 := Scalar.select v30 v31 v16
  let c3_i32 : BitVec 32 := 3#32
  let v42 : BitVec 1 := Scalar.cmpi .eq v32 c3_i32
  let v43 : BitVec 32 := Scalar.extui v42
  let c0_i32_19 : BitVec 32 := 0#32
  let v44 : BitVec 1 := Scalar.cmpi .ne v43 c0_i32_19
  v44

def k0_cond5 (i : grid0.Coords) : BitVec 1 :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_10 : BitVec 32 := 0#32
  let v19 : BitVec 1 := Scalar.cmpi .slt arg0 c0_i32_10
  let v20 : BitVec 32 := Scalar.extui v19
  let v21 : BitVec 32 := Scalar.subi v18 v20
  let c8_i32 : BitVec 32 := 8#32
  let c0_i32_11 : BitVec 32 := 0#32
  let v22 : BitVec 1 := Scalar.cmpi .sgt c8_i32 c0_i32_11
  let v23 : BitVec 32 := Scalar.extui v22
  let c0_i32_12 : BitVec 32 := 0#32
  let v24 : BitVec 1 := Scalar.cmpi .slt c8_i32 c0_i32_12
  let v25 : BitVec 32 := Scalar.extui v24
  let v26 : BitVec 32 := Scalar.subi v23 v25
  let v27 : BitVec 1 := Scalar.cmpi .ne v21 v26
  let v28 : BitVec 32 := Scalar.remsi arg0 c8_i32
  let c0_i32_13 : BitVec 32 := 0#32
  let v29 : BitVec 1 := Scalar.cmpi .ne v28 c0_i32_13
  let v30 : BitVec 1 := Scalar.andi v27 v29
  let v16 : BitVec 32 := Scalar.divsi arg0 c8_i32
  let c1_i32 : BitVec 32 := 1#32
  let v31 : BitVec 32 := Scalar.subi v16 c1_i32
  let v32 : BitVec 32 := Scalar.select v30 v31 v16
  let c4_i32 : BitVec 32 := 4#32
  let v45 : BitVec 1 := Scalar.cmpi .eq v32 c4_i32
  let v46 : BitVec 32 := Scalar.extui v45
  let c0_i32_20 : BitVec 32 := 0#32
  let v47 : BitVec 1 := Scalar.cmpi .ne v46 c0_i32_20
  v47

def k0_cond6 (i : grid0.Coords) : BitVec 1 :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_10 : BitVec 32 := 0#32
  let v19 : BitVec 1 := Scalar.cmpi .slt arg0 c0_i32_10
  let v20 : BitVec 32 := Scalar.extui v19
  let v21 : BitVec 32 := Scalar.subi v18 v20
  let c8_i32 : BitVec 32 := 8#32
  let c0_i32_11 : BitVec 32 := 0#32
  let v22 : BitVec 1 := Scalar.cmpi .sgt c8_i32 c0_i32_11
  let v23 : BitVec 32 := Scalar.extui v22
  let c0_i32_12 : BitVec 32 := 0#32
  let v24 : BitVec 1 := Scalar.cmpi .slt c8_i32 c0_i32_12
  let v25 : BitVec 32 := Scalar.extui v24
  let v26 : BitVec 32 := Scalar.subi v23 v25
  let v27 : BitVec 1 := Scalar.cmpi .ne v21 v26
  let v28 : BitVec 32 := Scalar.remsi arg0 c8_i32
  let c0_i32_13 : BitVec 32 := 0#32
  let v29 : BitVec 1 := Scalar.cmpi .ne v28 c0_i32_13
  let v30 : BitVec 1 := Scalar.andi v27 v29
  let v16 : BitVec 32 := Scalar.divsi arg0 c8_i32
  let c1_i32 : BitVec 32 := 1#32
  let v31 : BitVec 32 := Scalar.subi v16 c1_i32
  let v32 : BitVec 32 := Scalar.select v30 v31 v16
  let c5_i32 : BitVec 32 := 5#32
  let v48 : BitVec 1 := Scalar.cmpi .eq v32 c5_i32
  let v49 : BitVec 32 := Scalar.extui v48
  let c0_i32_21 : BitVec 32 := 0#32
  let v50 : BitVec 1 := Scalar.cmpi .ne v49 c0_i32_21
  v50

def k0_cond7 (i : grid0.Coords) : BitVec 1 :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_10 : BitVec 32 := 0#32
  let v19 : BitVec 1 := Scalar.cmpi .slt arg0 c0_i32_10
  let v20 : BitVec 32 := Scalar.extui v19
  let v21 : BitVec 32 := Scalar.subi v18 v20
  let c8_i32 : BitVec 32 := 8#32
  let c0_i32_11 : BitVec 32 := 0#32
  let v22 : BitVec 1 := Scalar.cmpi .sgt c8_i32 c0_i32_11
  let v23 : BitVec 32 := Scalar.extui v22
  let c0_i32_12 : BitVec 32 := 0#32
  let v24 : BitVec 1 := Scalar.cmpi .slt c8_i32 c0_i32_12
  let v25 : BitVec 32 := Scalar.extui v24
  let v26 : BitVec 32 := Scalar.subi v23 v25
  let v27 : BitVec 1 := Scalar.cmpi .ne v21 v26
  let v28 : BitVec 32 := Scalar.remsi arg0 c8_i32
  let c0_i32_13 : BitVec 32 := 0#32
  let v29 : BitVec 1 := Scalar.cmpi .ne v28 c0_i32_13
  let v30 : BitVec 1 := Scalar.andi v27 v29
  let v16 : BitVec 32 := Scalar.divsi arg0 c8_i32
  let c1_i32 : BitVec 32 := 1#32
  let v31 : BitVec 32 := Scalar.subi v16 c1_i32
  let v32 : BitVec 32 := Scalar.select v30 v31 v16
  let c6_i32 : BitVec 32 := 6#32
  let v51 : BitVec 1 := Scalar.cmpi .eq v32 c6_i32
  let v52 : BitVec 32 := Scalar.extui v51
  let c0_i32_22 : BitVec 32 := 0#32
  let v53 : BitVec 1 := Scalar.cmpi .ne v52 c0_i32_22
  v53

def k0_cond8 (i : grid0.Coords) : BitVec 1 :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_10 : BitVec 32 := 0#32
  let v19 : BitVec 1 := Scalar.cmpi .slt arg0 c0_i32_10
  let v20 : BitVec 32 := Scalar.extui v19
  let v21 : BitVec 32 := Scalar.subi v18 v20
  let c8_i32 : BitVec 32 := 8#32
  let c0_i32_11 : BitVec 32 := 0#32
  let v22 : BitVec 1 := Scalar.cmpi .sgt c8_i32 c0_i32_11
  let v23 : BitVec 32 := Scalar.extui v22
  let c0_i32_12 : BitVec 32 := 0#32
  let v24 : BitVec 1 := Scalar.cmpi .slt c8_i32 c0_i32_12
  let v25 : BitVec 32 := Scalar.extui v24
  let v26 : BitVec 32 := Scalar.subi v23 v25
  let v27 : BitVec 1 := Scalar.cmpi .ne v21 v26
  let v28 : BitVec 32 := Scalar.remsi arg0 c8_i32
  let c0_i32_13 : BitVec 32 := 0#32
  let v29 : BitVec 1 := Scalar.cmpi .ne v28 c0_i32_13
  let v30 : BitVec 1 := Scalar.andi v27 v29
  let v16 : BitVec 32 := Scalar.divsi arg0 c8_i32
  let c1_i32 : BitVec 32 := 1#32
  let v31 : BitVec 32 := Scalar.subi v16 c1_i32
  let v32 : BitVec 32 := Scalar.select v30 v31 v16
  let c7_i32 : BitVec 32 := 7#32
  let v54 : BitVec 1 := Scalar.cmpi .eq v32 c7_i32
  let v55 : BitVec 32 := Scalar.extui v54
  let c0_i32_23 : BitVec 32 := 0#32
  let v56 : BitVec 1 := Scalar.cmpi .ne v55 c0_i32_23
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c40_i32 : BitVec 32 := 40#32
  let v0 : BitVec 32 := Scalar.subi arg0 c40_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c48_i32 : BitVec 32 := 48#32
  let v0 : BitVec 32 := Scalar.subi arg0 c48_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c56_i32 : BitVec 32 := 56#32
  let v0 : BitVec 32 := Scalar.subi arg0 c56_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S192x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S192x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FinishReferenceIdeal.lean ====
abbrev S32768x1024 : Shape := ⟨2, ![32768, 1024]⟩
abbrev S32768 : Shape := ⟨1, ![32768]⟩
abbrev S1024x192 : Shape := ⟨2, ![1024, 192]⟩
abbrev S192 : Shape := ⟨1, ![192]⟩
abbrev S8192x128 : Shape := ⟨2, ![8192, 128]⟩
abbrev S65536x128 : Shape := ⟨2, ![65536, 128]⟩
abbrev S32768x256 : Shape := ⟨2, ![32768, 256]⟩
abbrev S32768x192 : Shape := ⟨2, ![32768, 192]⟩
abbrev S32768x1 : Shape := ⟨2, ![32768, 1]⟩
abbrev S1x192 : Shape := ⟨2, ![1, 192]⟩
abbrev S192x32768 : Shape := ⟨2, ![192, 32768]⟩

abbrev nBuf : Space → Nat
  | .hbm => 21
  | .vmem => 8
  | .smem => 0
  | _ => 0

abbrev bufTy : (tb : Table) → Fin (tcTables nBuf tb) → BufTy
  | .hbm, ⟨0, _⟩ => ⟨S32768x1024, .fp8e4m3⟩
  | .hbm, ⟨1, _⟩ => ⟨S32768, .f32⟩
  | .hbm, ⟨2, _⟩ => ⟨S1024x192, .fp8e4m3⟩
  | .hbm, ⟨3, _⟩ => ⟨S192, .f32⟩
  | .hbm, ⟨4, _⟩ => ⟨S192, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S65536x128, .f32⟩
  | .hbm, ⟨14, _⟩ => ⟨S32768x256, .f32⟩
  | .hbm, ⟨15, _⟩ => ⟨S32768x192, .f32⟩
  | .hbm, ⟨16, _⟩ => ⟨S32768x1, .f32⟩
  | .hbm, ⟨17, _⟩ => ⟨S1x192, .f32⟩
  | .hbm, ⟨18, _⟩ => ⟨S1x192, .f32⟩
  | .hbm, ⟨19, _⟩ => ⟨S192x32768, .bf16⟩
  | .hbm, ⟨20, _⟩ => ⟨S192x32768, .f32⟩
  | .local _ .vmem, ⟨0, _⟩ => ⟨S32768x1024, .fp8e4m3⟩
  | .local _ .vmem, ⟨1, _⟩ => ⟨S32768x1, .f32⟩
  | .local _ .vmem, ⟨2, _⟩ => ⟨S1024x192, .fp8e4m3⟩
  | .local _ .vmem, ⟨3, _⟩ => ⟨S1x192, .f32⟩
  | .local _ .vmem, ⟨4, _⟩ => ⟨S1x192, .f32⟩
  | .local _ .vmem, ⟨5, _⟩ => ⟨S32768x192, .f32⟩
  | .local _ .vmem, ⟨6, _⟩ => ⟨S192x32768, .bf16⟩
  | .local _ .vmem, ⟨7, _⟩ => ⟨S192x32768, .f32⟩
  | _, _ => ⟨S32768x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x32768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S192x32768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Products.lean ====
abbrev S32768x1024 : Shape := ⟨2, ![32768, 1024]⟩
abbrev S25x1024x192 : Shape := ⟨3, ![25, 1024, 192]⟩
abbrev S25x192 : Shape := ⟨2, ![25, 192]⟩
abbrev S25x192x1024 : Shape := ⟨3, ![25, 192, 1024]⟩
abbrev S4800x1024 : Shape := ⟨2, ![4800, 1024]⟩
abbrev S1x4800 : Shape := ⟨2, ![1, 4800]⟩
abbrev S155648x128 : Shape := ⟨2, ![155648, 128]⟩
abbrev S512x1024 : Shape := ⟨2, ![512, 1024]⟩
abbrev S19456x128 : Shape := ⟨2, ![19456, 128]⟩
abbrev S256x1024 : Shape := ⟨2, ![256, 1024]⟩
abbrev S512x256 : Shape := ⟨2, ![512, 256]⟩
abbrev S1x256 : Shape := ⟨2, ![1, 256]⟩
abbrev S512x128 : Shape := ⟨2, ![512, 128]⟩
abbrev S192x1024 : Shape := ⟨2, ![192, 1024]⟩
abbrev S512x192 : Shape := ⟨2, ![512, 192]⟩
abbrev S1x192 : Shape := ⟨2, ![1, 192]⟩
abbrev S512x64 : Shape := ⟨2, ![512, 64]⟩

abbrev nBuf : Space → Nat
  | .hbm => 14
  | .vmem => 48
  | .smem => 0
  | _ => 0

abbrev bufTy : (tb : Table) → Fin (tcTables nBuf tb) → BufTy
  | .hbm, ⟨0, _⟩ => ⟨S32768x1024, .fp8e4m3⟩
  | .hbm, ⟨1, _⟩ => ⟨S25x1024x192, .fp8e4m3⟩
  | .hbm, ⟨2, _⟩ => ⟨S25x192, .f32⟩
  | .hbm, ⟨3, _⟩ => ⟨S25x192x1024, .fp8e4m3⟩
  | .hbm, ⟨4, _⟩ => ⟨S4800x1024, .fp8e4m3⟩
  | .hbm, ⟨5, _⟩ => ⟨S1x4800, .f32⟩
  | .hbm, ⟨6, _⟩ => ⟨S155648x128, .f32⟩
  | .hbm, ⟨7, _⟩ => ⟨S155648x128, .f32⟩
  | .hbm, ⟨8, _⟩ => ⟨S155648x128, .f32⟩
  | .hbm, ⟨9, _⟩ => ⟨S155648x128, .f32⟩
  | .hbm, ⟨10, _⟩ => ⟨S155648x128, .f32⟩
  | .hbm, ⟨11, _⟩ => ⟨S155648x128, .f32⟩
  | .hbm, ⟨12, _⟩ => ⟨S155648x128, .f32⟩
  | .hbm, ⟨13, _⟩ => ⟨S155648x128, .f32⟩
  | .local _ .vmem, ⟨0, _⟩ => ⟨S512x1024, .fp8e4m3⟩
  | .local _ .vmem, ⟨1, _⟩ => ⟨S512x1024, .fp8e4m3⟩
  | .local _ .vmem, ⟨2, _⟩ => ⟨S4800x1024, .fp8e4m3⟩
  | .local _ .vmem, ⟨3, _⟩ => ⟨S1x4800, .f32⟩
  | .local _ .vmem, ⟨4, _⟩ => ⟨S19456x128, .f32⟩
  | .local _ .vmem, ⟨5, _⟩ => ⟨S19456x128, .f32⟩
  | .local _ .vmem, ⟨6, _⟩ => ⟨S512x1024, .fp8e4m3⟩
  | .local _ .vmem, ⟨7, _⟩ => ⟨S512x1024, .fp8e4m3⟩
  | .local _ .vmem, ⟨8, _⟩ => ⟨S4800x1024, .fp8e4m3⟩
  | .local _ .vmem, ⟨9, _⟩ => ⟨S1x4800, .f32⟩
  | .local _ .vmem, ⟨10, _⟩ => ⟨S19456x128, .f32⟩
  | .local _ .vmem, ⟨11, _⟩ => ⟨S19456x128, .f32⟩
  | .local _ .vmem, ⟨12, _⟩ => ⟨S512x1024, .fp8e4m3⟩
  | .local _ .vmem, ⟨13, _⟩ => ⟨S512x1024, .fp8e4m3⟩
  | .local _ .vmem, ⟨14, _⟩ => ⟨S4800x1024, .fp8e4m3⟩
  | .local _ .vmem, ⟨15, _⟩ => ⟨S1x4800, .f32⟩
  | .local _ .vmem, ⟨16, _⟩ => ⟨S19456x128, .f32⟩
  | .local _ .vmem, ⟨17, _⟩ => ⟨S19456x128, .f32⟩
  | .local _ .vmem, ⟨18, _⟩ => ⟨S512x1024, .fp8e4m3⟩
  | .local _ .vmem, ⟨19, _⟩ => ⟨S512x1024, .fp8e4m3⟩
  | .local _ .vmem, ⟨20, _⟩ => ⟨S4800x1024, .fp8e4m3⟩
  | .local _ .vmem, ⟨21, _⟩ => ⟨S1x4800, .f32⟩
  | .local _ .vmem, ⟨22, _⟩ => ⟨S19456x128, .f32⟩
  | .local _ .vmem, ⟨23, _⟩ => ⟨S19456x128, .f32⟩
  | .local _ .vmem, ⟨24, _⟩ => ⟨S512x1024, .fp8e4m3⟩
  | .local _ .vmem, ⟨25, _⟩ => ⟨S512x1024, .fp8e4m3⟩
  | .local _ .vmem, ⟨26, _⟩ => ⟨S4800x1024, .fp8e4m3⟩
  | .local _ .vmem, ⟨27, _⟩ => ⟨S1x4800, .f32⟩
  | .local _ .vmem, ⟨28, _⟩ => ⟨S19456x128, .f32⟩
  | .local _ .vmem, ⟨29, _⟩ => ⟨S19456x128, .f32⟩
  | .local _ .vmem, ⟨30, _⟩ => ⟨S512x1024, .fp8e4m3⟩
  | .local _ .vmem, ⟨31, _⟩ => ⟨S512x1024, .fp8e4m3⟩
  | .local _ .vmem, ⟨32, _⟩ => ⟨S4800x1024, .fp8e4m3⟩
  | .local _ .vmem, ⟨33, _⟩ => ⟨S1x4800, .f32⟩
  | .local _ .vmem, ⟨34, _⟩ => ⟨S19456x128, .f32⟩
  | .local _ .vmem, ⟨35, _⟩ => ⟨S19456x128, .f32⟩
  | .local _ .vmem, ⟨36, _⟩ => ⟨S512x1024, .fp8e4m3⟩
  | .local _ .vmem, ⟨37, _⟩ => ⟨S512x1024, .fp8e4m3⟩
  | .local _ .vmem, ⟨38, _⟩ => ⟨S4800x1024, .fp8e4m3⟩
  | .local _ .vmem, ⟨39, _⟩ => ⟨S1x4800, .f32⟩
  | .local _ .vmem, ⟨40, _⟩ => ⟨S19456x128, .f32⟩
  | .local _ .vmem, ⟨41, _⟩ => ⟨S19456x128, .f32⟩
  | .local _ .vmem, ⟨42, _⟩ => ⟨S512x1024, .fp8e4m3⟩
  | .local _ .vmem, ⟨43, _⟩ => ⟨S512x1024, .fp8e4m3⟩
  | .local _ .vmem, ⟨44, _⟩ => ⟨S4800x1024, .fp8e4m3⟩
  | .local _ .vmem, ⟨45, _⟩ => ⟨S1x4800, .f32⟩
  | .local _ .vmem, ⟨46, _⟩ => ⟨S19456x128, .f32⟩
  | .local _ .vmem, ⟨47, _⟩ => ⟨S19456x128, .f32⟩
  | _, _ => ⟨S32768x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4800x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S19456x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4800x1024 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4800 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S19456x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4800x1024 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4800 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S19456x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4800x1024 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4800 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S19456x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .fp8e4m3 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4800x1024 .fp8e4m3 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x4800 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S19456x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .fp8e4m3 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4800x1024 .fp8e4m3 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x4800 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S19456x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .fp8e4m3 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4800x1024 .fp8e4m3 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x4800 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S19456x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1024 .fp8e4m3 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S4800x1024 .fp8e4m3 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x4800 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S19456x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]
-- ==== ProductsReferenceIdeal.lean ====
abbrev S32768x1024 : Shape := ⟨2, ![32768, 1024]⟩
abbrev S25x1024x192 : Shape := ⟨3, ![25, 1024, 192]⟩
abbrev S25x192 : Shape := ⟨2, ![25, 192]⟩
abbrev S155648x128 : Shape := ⟨2, ![155648, 128]⟩
abbrev S32768x25x192 : Shape := ⟨3, ![32768, 25, 192]⟩
abbrev S1x25x192 : Shape := ⟨3, ![1, 25, 192]⟩
abbrev S32768x4800 : Shape := ⟨2, ![32768, 4800]⟩
abbrev S32768x64 : Shape := ⟨2, ![32768, 64]⟩
abbrev S32768x4864 : Shape := ⟨2, ![32768, 4864]⟩
abbrev S1245184x128 : Shape := ⟨2, ![1245184, 128]⟩

abbrev nBuf : Space → Nat
  | .hbm => 11
  | .vmem => 11
  | .smem => 0
  | _ => 0

abbrev bufTy : (tb : Table) → Fin (tcTables nBuf tb) → BufTy
  | .hbm, ⟨0, _⟩ => ⟨S32768x1024, .fp8e4m3⟩
  | .hbm, ⟨1, _⟩ => ⟨S25x1024x192, .fp8e4m3⟩
  | .hbm, ⟨2, _⟩ => ⟨S25x192, .f32⟩
  | .hbm, ⟨3, _⟩ => ⟨S155648x128, .f32⟩
  | .hbm, ⟨4, _⟩ => ⟨S155648x128, .f32⟩
  | .hbm, ⟨5, _⟩ => ⟨S155648x128, .f32⟩
  | .hbm, ⟨6, _⟩ => ⟨S155648x128, .f32⟩
  | .hbm, ⟨7, _⟩ => ⟨S155648x128, .f32⟩
  | .hbm, ⟨8, _⟩ => ⟨S155648x128, .f32⟩
  | .hbm, ⟨9, _⟩ => ⟨S155648x128, .f32⟩
  | .hbm, ⟨10, _⟩ => ⟨S155648x128, .f32⟩
  | .local _ .vmem, ⟨0, _⟩ => ⟨S32768x1024, .fp8e4m3⟩
  | .local _ .vmem, ⟨1, _⟩ => ⟨S25x1024x192, .fp8e4m3⟩
  | .local _ .vmem, ⟨2, _⟩ => ⟨S25x192, .f32⟩
  | .local _ .vmem, ⟨3, _⟩ => ⟨S155648x128, .f32⟩
  | .local _ .vmem, ⟨4, _⟩ => ⟨S155648x128, .f32⟩
  | .local _ .vmem, ⟨5, _⟩ => ⟨S155648x128, .f32⟩
  | .local _ .vmem, ⟨6, _⟩ => ⟨S155648x128, .f32⟩
  | .local _ .vmem, ⟨7, _⟩ => ⟨S155648x128, .f32⟩
  | .local _ .vmem, ⟨8, _⟩ => ⟨S155648x128, .f32⟩
  | .local _ .vmem, ⟨9, _⟩ => ⟨S155648x128, .f32⟩
  | .local _ .vmem, ⟨10, _⟩ => ⟨S155648x128, .f32⟩
  | _, _ => ⟨S32768x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32768x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S25x1024x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S25x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S155648x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S155648x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S155648x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S155648x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S155648x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S155648x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S155648x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S155648x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.ProductsBody.lean ====
/- The body of the products kernel at one grid point: what its 38 strided stores leave in the output block, and the
   triple saying that it leaves exactly that. Stated at any float interpretation. -/
module

public import proofs.«01_k».proof.Proof.Gen.Products.Launch
public import proofs.«01_k».proof.Proof.Gen.Products.Skeleton
public import proofs.«01_k».proof.Proof.Gen.Products.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ProductsProof

open Cert.Products Cert.Products.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Rounds
open Idealize.ShloMosaic.Pipeline (Dat Cfg Window BodyObligation cellOf)

local notation "𝕄" => MT nD τ sig Unit (Elt F) ℕ (UR sig nD τ) ℕ

/-! ## The blocks the body computes -/

/-- The rows of the output block that store `j` writes: row `j` of every group of 38. -/
def box (j : Fin 38) : Rect S19456x128 :=
  ⟨⟨![j.val, 0], S512x128.size, ![38, 1], by
    intro a; have := j.isLt; fin_cases a <;> simp [S19456x128, S512x128] <;> omega⟩, spos_38_1⟩

/-- The scaled product of the x block with 256 consecutive columns, from column `256 b`. -/
def prod (x : Vec F S512x1024 .fp8e4m3) (w : Vec F S4800x1024 .fp8e4m3) (s : Vec F S1x4800 .f32) (b : ℕ) (hb : b < 18) :
    FVec F S512x256 .f32 :=
  k0_pay2 (View.ld x (Rect.unit (s := S512x1024) ![0, 0] S512x1024.size inb_S512x1024_S512x1024_0_0))
    (View.ld w (Rect.unit (s := S4800x1024) ![256 * b, 0] S256x1024.size (by
      intro a; fin_cases a <;> simp [S4800x1024, S256x1024] <;> omega)))
    (View.ld s (Rect.unit (s := S1x4800) ![0, 256 * b] S1x256.size (by
      intro a; fin_cases a <;> simp [S1x4800, S1x256] <;> omega)))

/-- The scaled product with the last 192 columns. -/
def prodLast (x : Vec F S512x1024 .fp8e4m3) (w : Vec F S4800x1024 .fp8e4m3) (s : Vec F S1x4800 .f32) : FVec F S512x192 .f32 :=
  k0_pay60 (View.ld x (Rect.unit (s := S512x1024) ![0, 0] S512x1024.size inb_S512x1024_S512x1024_0_0))
    (View.ld w (Rect.unit (s := S4800x1024) ![4608, 0] S192x1024.size inb_S4800x1024_S192x1024_4608_0))
    (View.ld s (Rect.unit (s := S1x4800) ![0, 4608] S1x192.size inb_S1x4800_S1x192_0_4608))

/-- What store `j` writes: 128 columns of a product, the last one 64 columns and 64 zeros. -/
def pay (x : Vec F S512x1024 .fp8e4m3) (w : Vec F S4800x1024 .fp8e4m3) (s : Vec F S1x4800 .f32) (j : Fin 38) :
    FVec F S512x128 .f32 :=
  if h : j.val < 36 then
    extractStridedSlice S512x128 ![0, 128 * (j.val % 2)] (prod x w s (j.val / 2) (by omega)) (by
      refine ⟨rfl, fun a => ?_⟩; have := Nat.mod_lt j.val (show 0 < 2 by omega)
      fin_cases a <;> simp [S512x128, S512x256] <;> omega)
  else if j.val = 36 then extractStridedSlice S512x128 ![0, 0] (prodLast x w s) slices_S512x192_o0_0_S512x128
  else k0_pay1 (extractStridedSlice S512x64 ![0, 128] (prodLast x w s) slices_S512x192_o0_128_S512x64) (Scalar.ofBits .f32 0x00000000#32)

/-- Store `j` as a piece. -/
def piece (x : Vec F S512x1024 .fp8e4m3) (w : Vec F S4800x1024 .fp8e4m3) (s : Vec F S1x4800 .f32) (j : Fin 38) :
    View.Piece (Elt F) S19456x128 .f32 := ⟨box j, pay x w s j⟩

/-- The stores' numbers, last first. -/
def order : List (Fin 38) :=
  [37, 36, 35, 34, 33, 32, 31, 30, 29, 28, 27, 26, 25, 24, 23, 22, 21, 20, 19, 18, 17, 16, 15, 14, 13, 12, 11, 10, 9, 8, 7, 6, 5,
    4, 3, 2, 1, 0]

theorem mem_order (j : Fin 38) : j ∈ order := by revert j; decide

/-- What the body leaves in the output block. -/
def outBlock (x : Vec F S512x1024 .fp8e4m3) (w : Vec F S4800x1024 .fp8e4m3) (s : Vec F S1x4800 .f32) : Vec F S19456x128 .f32 :=
  View.canon (order.map (piece x w s))

/-- Row `r` lies in the rows of store `r % 38`. -/
theorem mem_box (y : S19456x128.Idx) : y ∈ (box ⟨(y 0).val % 38, Nat.mod_lt _ (by omega)⟩).set := by
  have h0 : (y 0).val < 19456 := (y 0).isLt
  have h1 : (y 1).val < 128 := (y 1).isLt
  refine (LoadRect.mem_set _).mpr fun a => ?_
  fin_cases a
  · refine ⟨(y 0).val / 38, ?_, ?_⟩
    · show (y 0).val / 38 < 512; omega
    · show (y 0).val = (y 0).val % 38 + 38 * ((y 0).val / 38); omega
  · refine ⟨(y 1).val, ?_, ?_⟩
    · exact h1
    · show (y 1).val = 0 + 1 * (y 1).val; omega

theorem cover (x : Vec F S512x1024 .fp8e4m3) (w : Vec F S4800x1024 .fp8e4m3) (s : Vec F S1x4800 .f32) (y : S19456x128.Idx) :
    ∃ pc ∈ order.map (piece x w s), y ∈ pc.1.set :=
  ⟨piece x w s _, List.mem_map_of_mem (mem_order _), mem_box y⟩

/-! ## The body's triple -/

set_option maxHeartbeats 4000000 in
/-- The body on whole staging buffers, the inputs' at `x`, `w`, `s`, leaves the inputs as they were and the output at
    `outBlock x w s`. -/
theorem sound_kernel (c : Dev nD) (E : Set ℕ) (i : grid0.Coords) (arg1 : Memref sig .tc .vmem S512x1024 .fp8e4m3) (harg1 : arg1.IsWhole)
    (arg2 : Memref sig .tc .vmem S4800x1024 .fp8e4m3) (harg2 : arg2.IsWhole) (arg3 : Memref sig .tc .vmem S1x4800 .f32) (harg3 : arg3.IsWhole)
    (arg4 : Memref sig .tc .vmem S19456x128 .f32) (harg4 : arg4.IsWhole)
    (x : Vec F S512x1024 .fp8e4m3) (w : Vec F S4800x1024 .fp8e4m3) (s : Vec F S1x4800 .f32) (K : PUnit → sProp 𝕄) :
    iprop(owns (c : Thread nD τ) arg1 fullShare x ∗ owns (c : Thread nD τ) arg2 fullShare w ∗ owns (c : Thread nD τ) arg3 fullShare s
        ∗ (∃ d, owns (c : Thread nD τ) arg4 fullShare d)
        ∗ (iprop(owns (c : Thread nD τ) arg1 fullShare x ∗ owns (c : Thread nD τ) arg2 fullShare w ∗ owns (c : Thread nD τ) arg3 fullShare s
          ∗ owns (c : Thread nD τ) arg4 fullShare (outBlock x w s)) -∗ K ⟨⟩))
      ⊢ wp frame (wpE (defs₀ (F := F)) Variants.none c none) E (cc0_products i arg1 harg1 arg2 harg2 arg3 harg3 arg4 harg4) K := by
  simp only [cc0_products_eq_skeleton]; unfold cc0_products_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ (order.map (piece _ _ _)) (cover _ _ _)

/-! ## The eight calls run one body -/

theorem cc1_eq : cc1_products (F := F) = cc0_products (F := F) := rfl
theorem cc2_eq : cc2_products (F := F) = cc0_products (F := F) := rfl
theorem cc3_eq : cc3_products (F := F) = cc0_products (F := F) := rfl
theorem cc4_eq : cc4_products (F := F) = cc0_products (F := F) := rfl
theorem cc5_eq : cc5_products (F := F) = cc0_products (F := F) := rfl
theorem cc6_eq : cc6_products (F := F) = cc0_products (F := F) := rfl
theorem cc7_eq : cc7_products (F := F) = cc0_products (F := F) := rfl

end Cert.ProductsProof

end
-- ==== Proof.ProductsCall.lean ====
/- One call of the products kernel: its proof data at a call number `p`, and the body at any grid point. Stated at any float interpretation. -/
module

public import proofs.«01_k».proof.Proof.ProductsBody
public import Idealize.ShloMosaic.Lib.Pipeline.RegionsLoop
public import Idealize.ShloMosaic.Lib.Pipeline.FrameSuffix

@[expose] public section

set_option maxRecDepth 16384

noncomputable section

namespace Cert.ProductsProof

open Cert.Products Cert.Products.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Rounds
open Idealize.ShloMosaic.Pipeline (Dat Cfg Window BodyObligation cellOf)

local notation "𝕄" => MT nD τ sig Unit (Elt F) ℕ (UR sig nD τ) ℕ

/-! ## One call, at the contents `V` of the buffers when it starts -/

section Call

variable (V : (c : Dev nD) → (b : Ref sig .tc) → Buf (Elt F) ((c : Thread nD τ).loc b))

/-- Window `w`'s block of call `p` at point `t`. -/
def iblk (p : Fin 8) (c : Dev nD) (w : Fin (cfgs p).W) (t : Fin (cfgs p).N) :
    (((cfgs p).win w).xblock ((cfgs p).grid.coords t)).Idx → Elt F ((cfgs p).win w).elt :=
  (((cfgs p).win w).blk t).view.read (Elt F) (V c (Pipeline.arrRef (cfgs p).spec w))

/-- What the body of call `p` leaves in window `w`'s buffer at point `t`: an input as it was, the output at the block
    of products. -/
def left : (p : Fin 8) → (c : Dev nD) → (w : Fin (cfgs p).W) → (t : Fin (cfgs p).N) →
    ((cfgs p).win w).block.Idx → Elt F ((cfgs p).win w).elt
  | ⟨0, _⟩ => fun c w t => match w with
    | ⟨0, _⟩ => iblk V 0 c 0 t | ⟨1, _⟩ => iblk V 0 c 1 t | ⟨2, _⟩ => iblk V 0 c 2 t
    | ⟨3, _⟩ => outBlock (iblk V 0 c 0 t) (iblk V 0 c 1 t) (iblk V 0 c 2 t)
  | ⟨1, _⟩ => fun c w t => match w with
    | ⟨0, _⟩ => iblk V 1 c 0 t | ⟨1, _⟩ => iblk V 1 c 1 t | ⟨2, _⟩ => iblk V 1 c 2 t
    | ⟨3, _⟩ => outBlock (iblk V 1 c 0 t) (iblk V 1 c 1 t) (iblk V 1 c 2 t)
  | ⟨2, _⟩ => fun c w t => match w with
    | ⟨0, _⟩ => iblk V 2 c 0 t | ⟨1, _⟩ => iblk V 2 c 1 t | ⟨2, _⟩ => iblk V 2 c 2 t
    | ⟨3, _⟩ => outBlock (iblk V 2 c 0 t) (iblk V 2 c 1 t) (iblk V 2 c 2 t)
  | ⟨3, _⟩ => fun c w t => match w with
    | ⟨0, _⟩ => iblk V 3 c 0 t | ⟨1, _⟩ => iblk V 3 c 1 t | ⟨2, _⟩ => iblk V 3 c 2 t
    | ⟨3, _⟩ => outBlock (iblk V 3 c 0 t) (iblk V 3 c 1 t) (iblk V 3 c 2 t)
  | ⟨4, _⟩ => fun c w t => match w with
    | ⟨0, _⟩ => iblk V 4 c 0 t | ⟨1, _⟩ => iblk V 4 c 1 t | ⟨2, _⟩ => iblk V 4 c 2 t
    | ⟨3, _⟩ => outBlock (iblk V 4 c 0 t) (iblk V 4 c 1 t) (iblk V 4 c 2 t)
  | ⟨5, _⟩ => fun c w t => match w with
    | ⟨0, _⟩ => iblk V 5 c 0 t | ⟨1, _⟩ => iblk V 5 c 1 t | ⟨2, _⟩ => iblk V 5 c 2 t
    | ⟨3, _⟩ => outBlock (iblk V 5 c 0 t) (iblk V 5 c 1 t) (iblk V 5 c 2 t)
  | ⟨6, _⟩ => fun c w t => match w with
    | ⟨0, _⟩ => iblk V 6 c 0 t | ⟨1, _⟩ => iblk V 6 c 1 t | ⟨2, _⟩ => iblk V 6 c 2 t
    | ⟨3, _⟩ => outBlock (iblk V 6 c 0 t) (iblk V 6 c 1 t) (iblk V 6 c 2 t)
  | ⟨7, _⟩ => fun c w t => match w with
    | ⟨0, _⟩ => iblk V 7 c 0 t | ⟨1, _⟩ => iblk V 7 c 1 t | ⟨2, _⟩ => iblk V 7 c 2 t
    | ⟨3, _⟩ => outBlock (iblk V 7 c 0 t) (iblk V 7 c 1 t) (iblk V 7 c 2 t)

/-- The proof data of call `p`: the arrays as the call finds them, the buffers after the body at `left`, nothing owed. -/
def dat (p : Fin 8) (c : Dev nD) : Dat τ (Elt F) Unit ℕ (UR sig nD τ) ℕ (cfgs p) c where
  A w := V c (Pipeline.arrRef (cfgs p).spec w)
  after := left V p c
  Φ _ := Pipeline.ΦA (cfgs p).spec c
  q _ := fullShare
  owed _ := 0

theorem A_eq (p : Fin 8) (c : Dev nD) (w : Fin (cfgs p).W) :
    (dat V p c).A w = V c (Pipeline.arrRef (cfgs p).spec w) := by dsimp only [dat]

end Call

/-- The program that call `p` runs at point `t`, as the one body on that call's buffers. -/
def Row : (p : Fin 8) → (t : Fin (cfgs p).N) → Prop
  | ⟨0, _⟩ => fun t => defs₀ (F := F) .tc cfg0.body (cfg0.bodyArgs t (cfg0.slots t))
    = cc0_products (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
  | ⟨1, _⟩ => fun t => defs₀ (F := F) .tc cfg1.body (cfg1.bodyArgs t (cfg1.slots t))
    = cc0_products (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3))
  | ⟨2, _⟩ => fun t => defs₀ (F := F) .tc cfg2.body (cfg2.bodyArgs t (cfg2.slots t))
    = cc0_products (grid2.coords t) (st2_0 t) (hstage2_0 ((cfg2.slots t 0).cast nbuf2_0)) (st2_1 t) (hstage2_1 ((cfg2.slots t 1).cast nbuf2_1))
      (st2_2 t) (hstage2_2 ((cfg2.slots t 2).cast nbuf2_2)) (st2_3 t) (hstage2_3 ((cfg2.slots t 3).cast nbuf2_3))
  | ⟨3, _⟩ => fun t => defs₀ (F := F) .tc cfg3.body (cfg3.bodyArgs t (cfg3.slots t))
    = cc0_products (grid3.coords t) (st3_0 t) (hstage3_0 ((cfg3.slots t 0).cast nbuf3_0)) (st3_1 t) (hstage3_1 ((cfg3.slots t 1).cast nbuf3_1))
      (st3_2 t) (hstage3_2 ((cfg3.slots t 2).cast nbuf3_2)) (st3_3 t) (hstage3_3 ((cfg3.slots t 3).cast nbuf3_3))
  | ⟨4, _⟩ => fun t => defs₀ (F := F) .tc cfg4.body (cfg4.bodyArgs t (cfg4.slots t))
    = cc0_products (grid4.coords t) (st4_0 t) (hstage4_0 ((cfg4.slots t 0).cast nbuf4_0)) (st4_1 t) (hstage4_1 ((cfg4.slots t 1).cast nbuf4_1))
      (st4_2 t) (hstage4_2 ((cfg4.slots t 2).cast nbuf4_2)) (st4_3 t) (hstage4_3 ((cfg4.slots t 3).cast nbuf4_3))
  | ⟨5, _⟩ => fun t => defs₀ (F := F) .tc cfg5.body (cfg5.bodyArgs t (cfg5.slots t))
    = cc0_products (grid5.coords t) (st5_0 t) (hstage5_0 ((cfg5.slots t 0).cast nbuf5_0)) (st5_1 t) (hstage5_1 ((cfg5.slots t 1).cast nbuf5_1))
      (st5_2 t) (hstage5_2 ((cfg5.slots t 2).cast nbuf5_2)) (st5_3 t) (hstage5_3 ((cfg5.slots t 3).cast nbuf5_3))
  | ⟨6, _⟩ => fun t => defs₀ (F := F) .tc cfg6.body (cfg6.bodyArgs t (cfg6.slots t))
    = cc0_products (grid6.coords t) (st6_0 t) (hstage6_0 ((cfg6.slots t 0).cast nbuf6_0)) (st6_1 t) (hstage6_1 ((cfg6.slots t 1).cast nbuf6_1))
      (st6_2 t) (hstage6_2 ((cfg6.slots t 2).cast nbuf6_2)) (st6_3 t) (hstage6_3 ((cfg6.slots t 3).cast nbuf6_3))
  | ⟨7, _⟩ => fun t => defs₀ (F := F) .tc cfg7.body (cfg7.bodyArgs t (cfg7.slots t))
    = cc0_products (grid7.coords t) (st7_0 t) (hstage7_0 ((cfg7.slots t 0).cast nbuf7_0)) (st7_1 t) (hstage7_1 ((cfg7.slots t 1).cast nbuf7_1))
      (st7_2 t) (hstage7_2 ((cfg7.slots t 2).cast nbuf7_2)) (st7_3 t) (hstage7_3 ((cfg7.slots t 3).cast nbuf7_3))

theorem row : (p : Fin 8) → (t : Fin (cfgs p).N) → Row (F := F) p t
  | ⟨0, _⟩, t | ⟨1, _⟩, t | ⟨2, _⟩, t | ⟨3, _⟩, t | ⟨4, _⟩, t | ⟨5, _⟩, t | ⟨6, _⟩, t | ⟨7, _⟩, t => by
    unfold Row defs₀; rw [Defs.onTc_tc]; try rfl

/-- The body at any point: with the input buffers at `x`, `w`, `s` it leaves the output's at `outBlock x w s`; the
    invariant `P` and what is owed `O` pass through. -/
theorem sound_point (c : Dev nD) (i : grid0.Coords) (arg1 : Memref sig .tc .vmem S512x1024 .fp8e4m3) (harg1 : arg1.IsWhole)
    (arg2 : Memref sig .tc .vmem S4800x1024 .fp8e4m3) (harg2 : arg2.IsWhole) (arg3 : Memref sig .tc .vmem S1x4800 .f32) (harg3 : arg3.IsWhole)
    (arg4 : Memref sig .tc .vmem S19456x128 .f32) (harg4 : arg4.IsWhole) (prog : Prog (TpuEff nD τ sig (Elt F) Λ₀ .tc) PUnit)
    (hprog : prog = cc0_products i arg1 harg1 arg2 harg2 arg3 harg3 arg4 harg4) (P O : sProp 𝕄)
    (x : Vec F S512x1024 .fp8e4m3) (w : Vec F S4800x1024 .fp8e4m3) (s : Vec F S1x4800 .f32)
    {D0 D1 D2 D3 : Type} (b0 : D0 → Vec F S512x1024 .fp8e4m3) (h0 : ∀ d, b0 d = x) (b1 : D1 → Vec F S4800x1024 .fp8e4m3) (h1 : ∀ d, b1 d = w)
    (b2 : D2 → Vec F S1x4800 .f32) (h2 : ∀ d, b2 d = s) (b3 : D3 → Vec F S19456x128 .f32) :
    iprop(P ∗ O ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d)))
      ⊢ wp frame (wpE (defs₀ (F := F)) Variants.none c none) Set.univ prog
        fun _ => iprop(P ∗ O ∗ owns (c : Thread nD τ) arg1 fullShare x ∗ owns (c : Thread nD τ) arg2 fullShare w
          ∗ owns (c : Thread nD τ) arg3 fullShare s ∗ owns (c : Thread nD τ) arg4 fullShare (outBlock x w s)) := by
  subst hprog
  simp only [h0, h1, h2]
  iintro ⟨HP, HO, ⟨%d0, H0⟩, ⟨%d1, H1⟩, ⟨%d2, H2⟩, ⟨%d3, H3⟩⟩
  iapply (sound_kernel c Set.univ i _ harg1 _ harg2 _ harg3 _ harg4 x w s _)
  isplitl [H0]; · iexact H0
  isplitl [H1]; · iexact H1
  isplitl [H2]; · iexact H2
  isplitl [H3]; · iexists _; iexact H3
  iintro ⟨H0, H1, H2, H3⟩
  isplitl [HP]; · iexact HP
  isplitl [HO]; · iexact HO
  isplitl [H0]; · iexact H0
  isplitl [H1]; · iexact H1
  isplitl [H2]; · iexact H2
  iexact H3

end Cert.ProductsProof

end
-- ==== Proof.ProductsObligation.lean ====
/- The body obligation of the eight calls of the products kernel, proved once at a call number `p`.
   Stated at any float interpretation. -/
module

public import proofs.«01_k».proof.Proof.ProductsCall
public import Idealize.ShloMosaic.Lib.Pipeline.RegionsLoop
public import Idealize.ShloMosaic.Lib.Pipeline.FrameSuffix

@[expose] public section

set_option maxRecDepth 16384

noncomputable section

namespace Cert.ProductsProof

open Cert.Products Cert.Products.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Rounds
open Idealize.ShloMosaic.Pipeline (Dat Cfg Window BodyObligation cellOf)

local notation "𝕄" => MT nD τ sig Unit (Elt F) ℕ (UR sig nD τ) ℕ

/-! ## The body obligation of each call -/

section Call

variable (V : (c : Dev nD) → (b : Ref sig .tc) → Buf (Elt F) ((c : Thread nD τ).loc b))

/-- Window `w`'s block, the call read off the point. -/
abbrev blkAt {p : Fin 8} (t : Fin (cfgs p).N) (c : Dev nD) (w : Fin (cfgs p).W) := iblk V p c w t

/-- What the body finds in window `w`'s buffer, the call read off the point. -/
abbrev foundAt {p : Fin 8} (t : Fin (cfgs p).N) (c : Dev nD) (w : Fin (cfgs p).W) := (dat V p c).before w t

/-- What the body leaves in window `w`'s buffer, the call read off the point. -/
abbrev leftAt {p : Fin 8} (t : Fin (cfgs p).N) (c : Dev nD) (w : Fin (cfgs p).W) := (dat V p c).after w t

/-- An input window's buffer holds its block at every point, fetched there or not. -/
theorem before_at {p : Fin 8} (t : Fin (cfgs p).N) (c : Dev nD) (w : Fin (cfgs p).W) (hw : ((cfgs p).win w).isOut = false)
    (hlive : ∀ i, (cfgs p).idle w i = false)
    (hclip : ∀ t t' : Fin (cfgs p).N, ((cfgs p).win w).index t = ((cfgs p).win w).index t' →
      ((cfgs p).win w).clip ((cfgs p).grid.coords t) = ((cfgs p).win w).clip ((cfgs p).grid.coords t'))
    (hkeep : ∀ t, ((cfgs p).win w).cut ((cfgs p).grid.coords t) ((dat V p c).after w t) = (dat V p c).blockOf w t) (d) :
    (dat V p c).before w t d = (dat V p c).fetched w t d :=
  (dat V p c).before_in_eq_fetched w hw hlive hclip hkeep t d

set_option maxHeartbeats 2000000 in
/-- The library's body obligation of call `p`, at every point. -/
theorem body_obligation : (p : Fin 8) → (c : Dev nD) →
    BodyObligation (dat (F := F) V p c) (defs₀ (F := F)) Variants.none () Set.univ
  | ⟨0, _⟩, c | ⟨1, _⟩, c | ⟨2, _⟩, c | ⟨3, _⟩, c | ⟨4, _⟩, c | ⟨5, _⟩, c | ⟨6, _⟩, c | ⟨7, _⟩, c => fun t => by
    rw [bigSep_W0, bigSep_W0]
    refine triple_restated (sound_point c _ _ _ _ _ _ _ _ _ _ (row _ t) ((dat V _ c).Φ t.castSucc) ((dat V _ c).owesAt () t.castSucc)
      (blkAt V t c (0 : Fin 4)) (blkAt V t c (1 : Fin 4)) (blkAt V t c (2 : Fin 4))
      _ (before_at V t c (0 : Fin 4) rfl (fun _ => rfl) (fun _ _ _ => rfl) (fun _ => rfl))
      _ (before_at V t c (1 : Fin 4) rfl (fun _ => rfl) (fun _ _ _ => rfl) (fun _ => rfl))
      _ (before_at V t c (2 : Fin 4) rfl (fun _ => rfl) (fun _ _ _ => rfl) (fun _ => rfl))
      (foundAt V t c (3 : Fin 4))) rfl .rfl fun _ => ?_
    have e0 : leftAt V t c (0 : Fin 4) = blkAt V t c (0 : Fin 4) := by (dsimp only [leftAt, blkAt, dat, left]; try rfl)
    have e1 : leftAt V t c (1 : Fin 4) = blkAt V t c (1 : Fin 4) := by (dsimp only [leftAt, blkAt, dat, left]; try rfl)
    have e2 : leftAt V t c (2 : Fin 4) = blkAt V t c (2 : Fin 4) := by (dsimp only [leftAt, blkAt, dat, left]; try rfl)
    have e3 : leftAt V t c (3 : Fin 4) = outBlock (blkAt V t c (0 : Fin 4)) (blkAt V t c (1 : Fin 4)) (blkAt V t c (2 : Fin 4)) := by
      (dsimp only [leftAt, blkAt, dat, left]; try rfl)
    dsimp only [leftAt] at e0 e1 e2 e3
    rw [e0, e1, e2, e3, show (dat V _ c).Φ t.succ = (dat V _ c).Φ t.castSucc from rfl,
      show (dat V _ c).owesAt () t.succ = (dat V _ c).owesAt () t.castSucc from rfl]
    exact .rfl

end Call

end Cert.ProductsProof

end
-- ==== Proof.ProductsRun.lean ====
/- The run of the products program: one host stretch that lays the weights out, then eight kernel calls, one per graph.
   Everything is stated once for all eight calls, at a call number `p`. Stated at any float interpretation. -/
module

public import proofs.«01_k».proof.Proof.ProductsObligation

@[expose] public section

set_option maxRecDepth 16384

noncomputable section

namespace Cert.ProductsProof

open Cert.Products Cert.Products.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-! ## The buffers at each boundary -/

/-- The references the host stretch writes, in order. -/
abbrev hostWrites : List (Ref sig .tc) := [main_v0, main_v1, main_v2]

theorem hostOps0_writes : (hostOps0 : List (HloOp τ sig (Elt F))).Forall fun op =>
    op.writes ⊆ (hostWrites.map (Proc.devRef (τ := τ) .tc)).toFinset :=
  StableHlo.forall_writes_sub_of_map rfl

theorem hostOps0_fresh : (hostOps0 : List (HloOp τ sig (Elt F))).Forall fun op => op.fresh = ∅ := by
  simp only [List.Forall]; repeat' constructor

/-- A core's buffers at launch. -/
abbrev W₀ : Dev nD → Valuation τ sig (Elt F) := fun c b => (s₀ m ρ).mem ((c : Dev nD), b)

/-- A core's buffers when call `k` starts: the host stretch has run, and every earlier call has left in its arrays what
    its write-backs leave. -/
def W : ℕ → Dev nD → Valuation τ sig (Elt F)
  | 0 => fun c => StableHlo.after hostOps0 (W₀ m ρ c)
  | k + 1 => fun c => if h : k < 8 then
      Pipeline.withArrays (cfgs ⟨k, h⟩).spec c (W k c) fun w => (dat (fun c b => W k c b) ⟨k, h⟩ c).arrAt w (cfgs ⟨k, h⟩).N
    else W k c

/-- The same read at the TensorCore's references. -/
abbrev V (k : ℕ) : (c : Dev nD) → (b : Ref sig .tc) → Buf (Elt F) ((c : Thread nD τ).loc b) := fun c b => W m ρ k c b

theorem W_succ (p : Fin 8) (c : Dev nD) : W m ρ (p.val + 1) c =
    Pipeline.withArrays (cfgs p).spec c (W m ρ p.val c) fun w => (dat (V m ρ p.val) p c).arrAt w (cfgs p).N := by
  show (if h : p.val < 8 then _ else _) = _
  rw [dif_pos p.isLt]

/-- The launch facts of call `p`. -/
theorem launch : (p : Fin 8) → Pipeline.LaunchFacts (nD := nD) (τ := τ) cfgs p
  | ⟨0, _⟩ => launch0 | ⟨1, _⟩ => launch1 | ⟨2, _⟩ => launch2 | ⟨3, _⟩ => launch3
  | ⟨4, _⟩ => launch4 | ⟨5, _⟩ => launch5 | ⟨6, _⟩ => launch6 | ⟨7, _⟩ => launch7

/-- After call `p` each of its arrays holds what the pipeline leaves. -/
theorem W_arr (p : Fin 8) (c : Dev nD) (w : Fin (cfgs p).W) :
    W m ρ (p.val + 1) c (Proc.devRef .tc (Pipeline.arrRef (cfgs p).spec w)) = (dat (V m ρ p.val) p c).arrAt w (cfgs p).N := by
  rw [W_succ]; exact Pipeline.withArrays_arr _ (launch p).win.arr_inj c _ _ w

/-- Call `p` changes no buffer but its arrays. -/
theorem W_of_ne (p : Fin 8) (c : Dev nD) (b : Ref sig .tc) (hb : ∀ w, Pipeline.arrRef (cfgs p).spec w ≠ b) :
    W m ρ (p.val + 1) c (Proc.devRef .tc b) = W m ρ p.val c (Proc.devRef .tc b) := by
  rw [W_succ]; exact Pipeline.withArrays_of_ne _ c _ _ b hb

/-- Call `p` changes no buffer but its output array. -/
theorem W_of (p : Fin 8) (c : Dev nD) (r : Ref sig .tc)
    (h : ∀ w : Fin (cfgs p).W, Pipeline.arrRef (cfgs p).spec w = r → ((cfgs p).win w).isOut = false) :
    W m ρ (p.val + 1) c (Proc.devRef .tc r) = W m ρ p.val c (Proc.devRef .tc r) := by
  by_cases hw : ∃ w : Fin (cfgs p).W, Pipeline.arrRef (cfgs p).spec w = r
  · obtain ⟨w, rfl⟩ := hw
    exact (W_arr m ρ p c w).trans (((dat (V m ρ p.val) p c).arrAt_in w (h w rfl) _).trans (A_eq (V m ρ p.val) p c w))
  · exact W_of_ne m ρ p c r fun w e => hw ⟨w, e⟩

/-- The buffers every call leaves alone: the arguments, and the weights and scales as the host stretch laid them out. -/
abbrev kept : List (Ref sig .tc) := [main_arg0, main_arg1, main_arg2, main_v0, main_v1, main_v2]

theorem kept_in : (p : Fin 8) → ∀ a ∈ kept, ∀ w : Fin (cfgs p).W, Pipeline.arrRef (cfgs p).spec w = a → ((cfgs p).win w).isOut = false
  | ⟨0, _⟩ | ⟨1, _⟩ | ⟨2, _⟩ | ⟨3, _⟩ | ⟨4, _⟩ | ⟨5, _⟩ | ⟨6, _⟩ | ⟨7, _⟩ => ListAll.forall_mem_of_all_decide (by decide +kernel +revert)

theorem W_kept (c : Dev nD) (a : Ref sig .tc) (ha : a ∈ kept) : (k : ℕ) → (hk : k ≤ 8) →
    W m ρ k c (Proc.devRef .tc a) = W m ρ 0 c (Proc.devRef .tc a)
  | 0, _ => rfl
  | k + 1, hk => (W_of m ρ ⟨k, hk⟩ c a (kept_in ⟨k, hk⟩ a ha)).trans (W_kept c a ha k (by omega))

/-- The arguments end as launched. -/
theorem W_arg (c : Dev nD) (a : Ref sig .tc) (ha : a ∈ kept) (hw : a ∉ hostWrites) (k : ℕ) (hk : k ≤ 8) :
    W m ρ k c (Proc.devRef .tc a) = m ((c : Thread nD τ).loc a) :=
  (W_kept m ρ c a ha k hk).trans (StableHlo.after_of_writes_sub hostOps0 _ hostOps0_writes hw)

/-! ## The segments -/

abbrev adm : (p : Fin 8) → (pcfgs (F := F) p).Adm := fun p => (cfgs p).toPCfg_adm

/-- The proof data of every call, each at the buffers it starts from. -/
def pdats (p : Fin 8) (c : Dev nD) : Dat τ (Elt F) Unit ℕ (UR sig nD τ) ℕ (Pipeline.pin (pcfgs (F := F)) adm p) c :=
  dat (V m ρ p.val) p c

abbrev L : GSem nD τ sig → Finset Unit := fun _ => ∅
abbrev lv : GSem nD τ sig → Unit → ℕ := fun _ _ => 0

/-- What rides beside the buffers: the generator register at some state, and nothing owed. -/
abbrev R (c : Dev nD) : sProp 𝕄 := iprop((∃ r, prngReg c r) ∗ ∃ W, owes (c : Thread nD τ) (0 : CellTallies nD τ sig Unit) W)

/-- The host stretch as a segment. -/
abbrev hseg : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W₀ m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Call `p` as a segment: entered from the buffers at `W p`, left with them at `W (p + 1)`. -/
def reg (p : Fin 8) : Pipeline.RegionSeg (pcfgs (F := F)) adm (pdats m ρ) () defs₀ Variants.none L lv p where
  win := (launch p).win.to₀
  block_pos := (launch p).block_pos
  stage_whole := (launch p).stage_whole
  K := PEmpty
  osem k := k.elim
  ho := Pipeline.OwnSemFacts.none _
  hbody c := (body_obligation (V m ρ p.val) p c).loose
  hwaits := Pipeline.hwaits_of_owed_zero _ _ _ _ L lv p fun _ _ => rfl
  pre c := iprop(StableHlo.held (c : Thread nD τ) (Pipeline.ucRefs τ sig) (W m ρ p.val c) ∗ R c)
  post c := iprop(StableHlo.held (c : Thread nD τ) (Pipeline.ucRefs τ sig) (W m ρ (p.val + 1) c) ∗ R c)
  X c := iprop(∃ r, prngReg c r)
  Y c := iprop(∃ r, prngReg c r)
  Z c := Pipeline.unscopedRest (Ix := Unit) (Name := ℕ) (U := UR sig nD τ) (Lvl := ℕ) (cfgs p).spec c (V m ρ p.val c)
  hentry c := by
    rw [Pipeline.ownSems0_none]
    have hsplit := Pipeline.arrays_of_unscopedBufs (p := p) (pcfgs (F := F)) adm (pdats m ρ) (launch p).win (launch p).arr_whole c
      ((pdats m ρ p c).share_full fun _ => rfl) (V m ρ p.val c) (A_eq (V m ρ p.val) p c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ p c).Φ 0 = Pipeline.ΦA (cfgs p).spec c from rfl]; unfold Pipeline.ΦA
    iintro ⟨Hp, -, Hr⟩
    isplitl [Hr]; · iexact Hr
    iexact Hp
  hout c := by
    rw [Pipeline.ownSems0_none, show (pdats m ρ p c).Φ (Fin.last _) = Pipeline.ΦA (cfgs p).spec c from rfl]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      (launch p).win (launch p).arr_whole c (pdats m ρ) ((pdats m ρ p c).share_full fun _ => rfl)
      (V m ρ p.val c) (V m ρ (p.val + 1) c) ((pdats m ρ p c).arrAt · (cfgs p).N) (fun w => (W_arr m ρ p c w).symm)
      (fun b hb => W_of_ne m ρ p c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main as segments. -/
abbrev segs : List (Pipeline.Seg (pcfgs (F := F)) adm (pdats m ρ) () defs₀ Variants.none L lv) :=
  [.host (hseg m ρ), .region (reg m ρ 0), .region (reg m ρ 1), .region (reg m ρ 2), .region (reg m ρ 3), .region (reg m ρ 4),
    .region (reg m ρ 5), .region (reg m ρ 6), .region (reg m ρ 7)]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory with zero counters, every weakly fair run of @main ends, with every unscoped buffer at `W 8` and every
    counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W m ρ 8 c b) ∧ r.2.sem = fun _ => 0) :=
  Pipeline.θ_run_regions_kit_sems (pcfgs (F := F)) adm (pdats m ρ) () cellOf_inj emb₁ defs₀ Variants.none L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W₀ m ρ c) ∗ R c))
    (Tₙ := fun c => iprop(StableHlo.held (c : Thread nD τ) (Pipeline.ucRefs τ sig) (W m ρ 8 c) ∗ ∃ r, prngReg c r))
    (hch := ⟨fun _ => .rfl, fun _ => .rfl, fun _ => .rfl, fun _ => .rfl, fun _ => .rfl, fun _ => .rfl, fun _ => .rfl, fun _ => .rfl,
      fun _ => .rfl, fun c => sep_assoc.2⟩)
    (hinit := by
      refine Pipeline.initEach L lv fun c => ?_
      rw [show unscopedBufs c (fun b => m ((c : Thread nD τ).loc b)) = StableHlo.held (c : Thread nD τ) (Pipeline.ucRefs τ sig) (W₀ m ρ c)
        from Pipeline.unscopedBufs_held c (W₀ m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W m ρ 8 c b)
    (hfin := fun c s' => by
      iintro ⟨⟨Hh, -⟩, HSI⟩
      unfold StableHlo.held
      imodintro
      iapply (pointsTo_read_all (Pipeline.ucRefs τ sig) (fun b => (((c : Thread nD τ)).1, b)) (W m ρ 8 c) s')
      isplitl [Hh] <;> iassumption)
    (hQ := fun s h hz => ⟨h, funext fun g => hz g (.inr (no_unscoped g.2))⟩)

/-- The frame claim: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W_arg m ρ c main_arg0 (by decide) (by decide) 8 le_rfl),
     (h.1 c _ (mem_uc main_arg1 (by decide))).trans (W_arg m ρ c main_arg1 (by decide) (by decide) 8 le_rfl),
     (h.1 c _ (mem_uc main_arg2 (by decide))).trans (W_arg m ρ c main_arg2 (by decide) (by decide) 8 le_rfl)⟩, h.2⟩) (run m ρ)

end Cert.ProductsProof

end
-- ==== Proof.ProductsIdealRun.lean ====
/- The idealized products program is the products program: no rewrite rule applies, so the two are printed alike and are
   equal by definition. A statement about the runs of one is the same statement about the other; the frame is carried over here. -/
module

public import proofs.«01_k».proof.Proof.ProductsRun
public import proofs.«01_k».proof.ProductsIdeal
public import Idealize.ShloMosaic.PureOps.Ideal
public import proofs.«01_k».proof.Proof.Gen.ProductsIdeal

@[expose] public section

set_option maxRecDepth 65536

noncomputable section

namespace Cert.ProductsProof

open Idealize.ShloMosaic Idealize.ShloMosaic.TcCoe Idealize.SL.Sem

attribute [local instance] Cert.Products.Gen.facts Cert.ProductsIdeal.Gen.facts

/-- The frame of the products program, at the ideal instance. -/
def Frame : Prop := ∀ (m : (ℓ : Loc Cert.Products.nD Cert.Products.τ Cert.Products.sig) → Buf (Elt Ideal) ℓ) (ρ : Dev Cert.Products.nD → PrngReg),
    θ_run (Cert.Products.defs (F := Ideal)) (onTc (τ := Cert.Products.τ) (Cert.Products.main (F := Ideal))) ⟨m, fun _ => 0, ρ⟩ (fun r => (∀ c : Dev Cert.Products.nD,
      r.2.mem ((c.tc : Thread Cert.Products.nD Cert.Products.τ).loc Cert.Products.main_arg0) = m ((c.tc : Thread Cert.Products.nD Cert.Products.τ).loc Cert.Products.main_arg0)
      ∧ r.2.mem ((c.tc : Thread Cert.Products.nD Cert.Products.τ).loc Cert.Products.main_arg1) = m ((c.tc : Thread Cert.Products.nD Cert.Products.τ).loc Cert.Products.main_arg1)
      ∧ r.2.mem ((c.tc : Thread Cert.Products.nD Cert.Products.τ).loc Cert.Products.main_arg2) = m ((c.tc : Thread Cert.Products.nD Cert.Products.τ).loc Cert.Products.main_arg2))
      ∧ r.2.sem = fun _ => 0)

/-- The frame of its idealization. -/
def FrameIdeal : Prop := ∀ (m : (ℓ : Loc Cert.ProductsIdeal.nD Cert.ProductsIdeal.τ Cert.ProductsIdeal.sig) → Buf (Elt Ideal) ℓ) (ρ : Dev Cert.ProductsIdeal.nD → PrngReg),
    θ_run (Cert.ProductsIdeal.defs (F := Ideal)) (onTc (τ := Cert.ProductsIdeal.τ) (Cert.ProductsIdeal.main (F := Ideal))) ⟨m, fun _ => 0, ρ⟩ (fun r => (∀ c : Dev Cert.ProductsIdeal.nD,
      r.2.mem ((c.tc : Thread Cert.ProductsIdeal.nD Cert.ProductsIdeal.τ).loc Cert.ProductsIdeal.main_arg0) = m ((c.tc : Thread Cert.ProductsIdeal.nD Cert.ProductsIdeal.τ).loc Cert.ProductsIdeal.main_arg0)
      ∧ r.2.mem ((c.tc : Thread Cert.ProductsIdeal.nD Cert.ProductsIdeal.τ).loc Cert.ProductsIdeal.main_arg1) = m ((c.tc : Thread Cert.ProductsIdeal.nD Cert.ProductsIdeal.τ).loc Cert.ProductsIdeal.main_arg1)
      ∧ r.2.mem ((c.tc : Thread Cert.ProductsIdeal.nD Cert.ProductsIdeal.τ).loc Cert.ProductsIdeal.main_arg2) = m ((c.tc : Thread Cert.ProductsIdeal.nD Cert.ProductsIdeal.τ).loc Cert.ProductsIdeal.main_arg2))
      ∧ r.2.sem = fun _ => 0)

theorem frame_same : FrameIdeal = Frame := by chain_rfl

theorem frame_ideal : FrameIdeal := frame_same.mpr fun m ρ => frame m ρ

end Cert.ProductsProof

end
-- ==== Proof.ProductsBlock.lean ====
/- What the products kernel's body leaves in the output block, entry by entry, over the extended reals. -/
module

public import proofs.«01_k».proof.Proof.ProductsBody
public import Idealize.ShloMosaic.Lib.Pointwise

@[expose] public section

set_option maxRecDepth 16384

noncomputable section

namespace Cert.ProductsProof

open Cert.Products Cert.Products.Gen
open Idealize.ShloMosaic Idealize.ShloMosaic.TcCoe Idealize.SL.Sem

/-- Column `c` of row `q` of the scaled product of an x block with the flattened weights; zero past the last column. -/
def entry (x : FVec Ideal S512x1024 .fp8e4m3) (w : FVec Ideal S4800x1024 .fp8e4m3) (s : FVec Ideal S1x4800 .f32) (q : Fin 512) (c : ℕ) : EReal :=
  if h : c < 4800 then (∑ d : Fin 1024, x (ix2 q d) * w (ix2 ⟨c, h⟩ d)) * s (ix2 0 ⟨c, h⟩) else 0

/-- An entry of one 256-column product. -/
theorem prod_apply (x : FVec Ideal S512x1024 .fp8e4m3) (w : FVec Ideal S4800x1024 .fp8e4m3) (s : FVec Ideal S1x4800 .f32) (b : ℕ) (hb : b < 18)
    (q : Fin 512) (l : Fin 256) : prod (F := Ideal) x w s b hb (ix2 q l) = entry x w s q (256 * b + l.val) := by
  have hl := l.isLt
  have h : 256 * b + l.val < 4800 := by omega
  rw [entry, dif_pos h]
  unfold prod
  pointwise [k0_pay2]

/-- An entry of the last, 192-column, product. -/
theorem prodLast_apply (x : FVec Ideal S512x1024 .fp8e4m3) (w : FVec Ideal S4800x1024 .fp8e4m3) (s : FVec Ideal S1x4800 .f32)
    (q : Fin 512) (l : Fin 192) : prodLast (F := Ideal) x w s (ix2 q l) = entry x w s q (4608 + l.val) := by
  have hl := l.isLt
  have h : 4608 + l.val < 4800 := by omega
  rw [entry, dif_pos h]
  unfold prodLast
  pointwise [k0_pay60]

/-- An entry of what store `j` writes: column `128 j + l`. -/
theorem pay_apply (x : FVec Ideal S512x1024 .fp8e4m3) (w : FVec Ideal S4800x1024 .fp8e4m3) (s : FVec Ideal S1x4800 .f32) (j : Fin 38)
    (q : Fin 512) (l : Fin 128) : pay (F := Ideal) x w s j (ix2 q l) = entry x w s q (j.val * 128 + l.val) := by
  have hl := l.isLt
  have hj := j.isLt
  unfold pay
  split_ifs with h h'
  · pointwise
    rw [prod_apply]
    exact congrArg (entry x w s q) (by show 256 * (j.val / 2) + (128 * (j.val % 2) + l.val) = _; omega)
  · pointwise
    rw [prodLast_apply]
    exact congrArg (entry x w s q) (by show 4608 + l.val = _; omega)
  · pointwise [k0_pay1]
    split_ifs with h64
    · rw [prodLast_apply]
      exact congrArg (entry x w s q) (by show 4608 + (128 + l.val) = _; omega)
    · rw [entry, dif_neg (by omega)]

/-- The entries of the output block as one function of its index. -/
def blockFn (x : FVec Ideal S512x1024 .fp8e4m3) (w : FVec Ideal S4800x1024 .fp8e4m3) (s : FVec Ideal S1x4800 .f32) (y : S19456x128.Idx) :
    Elt Ideal .f32 :=
  entry x w s ⟨(y 0).val / 38, by have h : (y 0).val < 19456 := (y 0).isLt; omega⟩ ((y 0).val % 38 * 128 + (y 1).val)

/-- Row `q` of store `j` is row `j + 38 q` of the block. -/
theorem box_row (j : Fin 38) (z : (box j).shape.Idx) : ((box j).emb z 0).val = j.val + 38 * (z 0).val := rfl
theorem box_lane (j : Fin 38) (z : (box j).shape.Idx) : ((box j).emb z 1).val = 0 + 1 * (z 1).val := rfl

/-- Each store writes that function's entries. -/
theorem piece_apply (x : FVec Ideal S512x1024 .fp8e4m3) (w : FVec Ideal S4800x1024 .fp8e4m3) (s : FVec Ideal S1x4800 .f32) (j : Fin 38)
    (z : S512x128.Idx) : pay (F := Ideal) x w s j z = blockFn x w s ((box j).emb z) := by
  have e0 := box_row j z
  have e1 := box_lane j z
  have h0 : (z 0).val < 512 := (z 0).isLt
  have h1 : (z 1).val < 128 := (z 1).isLt
  have hz : z = ix2 ⟨(z 0).val, h0⟩ ⟨(z 1).val, h1⟩ := eq_ix2 (n0 := 512) (n1 := 128) z
  refine ((congrArg (pay (F := Ideal) x w s j) hz).trans (pay_apply x w s j _ _)).trans ?_
  have hj := j.isLt
  unfold blockFn
  generalize (box j).emb z = y at *
  refine congrArg₂ (entry x w s) (Fin.ext ?_) ?_
  · show (z 0).val = (y 0).val / 38; omega
  · show j.val * 128 + (z 1).val = (y 0).val % 38 * 128 + (y 1).val; omega

/-- The output block, entry by entry: row `38 q + j`, lane `l` holds column `128 j + l` of row `q`. -/
theorem outBlock_apply (x : FVec Ideal S512x1024 .fp8e4m3) (w : FVec Ideal S4800x1024 .fp8e4m3) (s : FVec Ideal S1x4800 .f32)
    (r : Fin 19456) (l : Fin 128) :
    outBlock (F := Ideal) x w s (ix2 r l) = entry x w s ⟨r.val / 38, by omega⟩ (r.val % 38 * 128 + l.val) := by
  unfold outBlock
  have h := View.canon_apply_of_pieces (Val := Elt Ideal) (S := S19456x128) (e := .f32) (blockFn x w s) (order.map (piece (F := Ideal) x w s))
    (fun p hp => by
      obtain ⟨j, -, rfl⟩ := List.mem_map.mp hp
      exact piece_apply x w s j) (ix2 r l) (cover (F := Ideal) x w s (ix2 r l))
  exact h

end Cert.ProductsProof

end
-- ==== Proof.ProductsArray.lean ====
/- What one call of the products kernel writes into its output array, entry by entry, over the extended reals: the block
   written at each grid point is that block of one array, a function of the call's inputs. -/
module

public import proofs.«01_k».proof.Proof.ProductsBlock
public import proofs.«01_k».proof.Proof.ProductsCall

@[expose] public section

set_option maxRecDepth 16384

noncomputable section

namespace Cert.ProductsProof

open Cert.Products Cert.Products.Gen
open Idealize.ShloMosaic Idealize.ShloMosaic.TcCoe Idealize.SL.Sem

/-- The scaled products of graph `g`: row `38 n + j`, lane `l` holds column `c = 128 j + l` of node `n`'s products with the
    flattened weights; zero past the last column. -/
def arr (g : Fin 8) (x : FVec Ideal S32768x1024 .fp8e4m3) (w : FVec Ideal S4800x1024 .fp8e4m3) (s : FVec Ideal S1x4800 .f32) :
    FVec Ideal S155648x128 .f32 := fun i =>
  if h : (i 0).val % 38 * 128 + (i 1).val < 4800 then
    (∑ d : Fin 1024, x (ix2 ⟨4096 * g.val + (i 0).val / 38, by have h0 : (i 0).val < 155648 := (i 0).isLt; omega⟩ d)
      * w (ix2 ⟨_, h⟩ d)) * s (ix2 0 ⟨_, h⟩)
  else 0

/-- The block written at point `t` is rows `19456 t …` of `arr`, when the x block is the 512 rows of that point and the
    weights and scales are whole. -/
theorem outBlock_eq (g : Fin 8) (x : FVec Ideal S32768x1024 .fp8e4m3) (w : FVec Ideal S4800x1024 .fp8e4m3) (s : FVec Ideal S1x4800 .f32)
    (t : ℕ) (ht : t < 8) (xb : FVec Ideal S512x1024 .fp8e4m3) (wb : FVec Ideal S4800x1024 .fp8e4m3) (sb : FVec Ideal S1x4800 .f32)
    (hx : ∀ (q : Fin 512) (d : Fin 1024), xb (ix2 q d) = x (ix2 ⟨4096 * g.val + 512 * t + q.val, by omega⟩ d)) (hw : wb = w) (hs : sb = s)
    (j : S19456x128.Idx) (i : S155648x128.Idx) (h0 : (i 0).val = 19456 * t + (j 0).val) (h1 : (i 1).val = (j 1).val) :
    outBlock (F := Ideal) xb wb sb j = arr g x w s i := by
  subst hw hs
  obtain ⟨r, l, rfl⟩ : ∃ (r : Fin 19456) (l : Fin 128), j = ix2 r l := ⟨j 0, j 1, funext fun a => by fin_cases a <;> rfl⟩
  have e0 : (i 0).val = 19456 * t + r.val := h0
  have e1 : (i 1).val = l.val := h1
  rw [outBlock_apply]
  unfold entry arr
  have hm : (i 0).val % 38 = r.val % 38 := by omega
  have hd : 4096 * g.val + (i 0).val / 38 = 4096 * g.val + 512 * t + r.val / 38 := by omega
  simp only [hm, e1, hd, hx]

theorem ext2 {n k : ℕ} {i j : (⟨2, ![n, k]⟩ : Shape).Idx} (h0 : (i 0).val = (j 0).val) (h1 : (i 1).val = (j 1).val) : i = j := by
  funext a; apply Fin.ext
  match a with
  | ⟨0, _⟩ => exact h0
  | ⟨1, _⟩ => exact h1

/-! ## The blocks of each call -/

/-- Where call `p`'s blocks lie at point `t`: x moves through graph `p` by 512 rows, the weights and scales stay, the output
    moves by one block. -/
def Places : (p : Fin 8) → (t : Fin (cfgs p).N) → Prop
  | ⟨0, _⟩ => fun t => t.val < 8 ∧ (win0_0.index t (0 : Fin 2) = 8 * 0 + t.val ∧ win0_0.index t (1 : Fin 2) = 0)
      ∧ (win0_1.index t (0 : Fin 2) = 0 ∧ win0_1.index t (1 : Fin 2) = 0) ∧ (win0_2.index t (0 : Fin 2) = 0 ∧ win0_2.index t (1 : Fin 2) = 0)
      ∧ (win0_3.index t (0 : Fin 2) = t.val ∧ win0_3.index t (1 : Fin 2) = 0)
  | ⟨1, _⟩ => fun t => t.val < 8 ∧ (win1_0.index t (0 : Fin 2) = 8 * 1 + t.val ∧ win1_0.index t (1 : Fin 2) = 0)
      ∧ (win1_1.index t (0 : Fin 2) = 0 ∧ win1_1.index t (1 : Fin 2) = 0) ∧ (win1_2.index t (0 : Fin 2) = 0 ∧ win1_2.index t (1 : Fin 2) = 0)
      ∧ (win1_3.index t (0 : Fin 2) = t.val ∧ win1_3.index t (1 : Fin 2) = 0)
  | ⟨2, _⟩ => fun t => t.val < 8 ∧ (win2_0.index t (0 : Fin 2) = 8 * 2 + t.val ∧ win2_0.index t (1 : Fin 2) = 0)
      ∧ (win2_1.index t (0 : Fin 2) = 0 ∧ win2_1.index t (1 : Fin 2) = 0) ∧ (win2_2.index t (0 : Fin 2) = 0 ∧ win2_2.index t (1 : Fin 2) = 0)
      ∧ (win2_3.index t (0 : Fin 2) = t.val ∧ win2_3.index t (1 : Fin 2) = 0)
  | ⟨3, _⟩ => fun t => t.val < 8 ∧ (win3_0.index t (0 : Fin 2) = 8 * 3 + t.val ∧ win3_0.index t (1 : Fin 2) = 0)
      ∧ (win3_1.index t (0 : Fin 2) = 0 ∧ win3_1.index t (1 : Fin 2) = 0) ∧ (win3_2.index t (0 : Fin 2) = 0 ∧ win3_2.index t (1 : Fin 2) = 0)
      ∧ (win3_3.index t (0 : Fin 2) = t.val ∧ win3_3.index t (1 : Fin 2) = 0)
  | ⟨4, _⟩ => fun t => t.val < 8 ∧ (win4_0.index t (0 : Fin 2) = 8 * 4 + t.val ∧ win4_0.index t (1 : Fin 2) = 0)
      ∧ (win4_1.index t (0 : Fin 2) = 0 ∧ win4_1.index t (1 : Fin 2) = 0) ∧ (win4_2.index t (0 : Fin 2) = 0 ∧ win4_2.index t (1 : Fin 2) = 0)
      ∧ (win4_3.index t (0 : Fin 2) = t.val ∧ win4_3.index t (1 : Fin 2) = 0)
  | ⟨5, _⟩ => fun t => t.val < 8 ∧ (win5_0.index t (0 : Fin 2) = 8 * 5 + t.val ∧ win5_0.index t (1 : Fin 2) = 0)
      ∧ (win5_1.index t (0 : Fin 2) = 0 ∧ win5_1.index t (1 : Fin 2) = 0) ∧ (win5_2.index t (0 : Fin 2) = 0 ∧ win5_2.index t (1 : Fin 2) = 0)
      ∧ (win5_3.index t (0 : Fin 2) = t.val ∧ win5_3.index t (1 : Fin 2) = 0)
  | ⟨6, _⟩ => fun t => t.val < 8 ∧ (win6_0.index t (0 : Fin 2) = 8 * 6 + t.val ∧ win6_0.index t (1 : Fin 2) = 0)
      ∧ (win6_1.index t (0 : Fin 2) = 0 ∧ win6_1.index t (1 : Fin 2) = 0) ∧ (win6_2.index t (0 : Fin 2) = 0 ∧ win6_2.index t (1 : Fin 2) = 0)
      ∧ (win6_3.index t (0 : Fin 2) = t.val ∧ win6_3.index t (1 : Fin 2) = 0)
  | ⟨7, _⟩ => fun t => t.val < 8 ∧ (win7_0.index t (0 : Fin 2) = 8 * 7 + t.val ∧ win7_0.index t (1 : Fin 2) = 0)
      ∧ (win7_1.index t (0 : Fin 2) = 0 ∧ win7_1.index t (1 : Fin 2) = 0) ∧ (win7_2.index t (0 : Fin 2) = 0 ∧ win7_2.index t (1 : Fin 2) = 0)
      ∧ (win7_3.index t (0 : Fin 2) = t.val ∧ win7_3.index t (1 : Fin 2) = 0)

instance : (p : Fin 8) → (t : Fin (cfgs p).N) → Decidable (Places p t)
  | ⟨0, _⟩, _ | ⟨1, _⟩, _ | ⟨2, _⟩, _ | ⟨3, _⟩, _ | ⟨4, _⟩, _ | ⟨5, _⟩, _ | ⟨6, _⟩, _ | ⟨7, _⟩, _ => by unfold Places; infer_instance

theorem places : (p : Fin 8) → ∀ t : Fin (cfgs p).N, Places p t
  | ⟨0, _⟩ | ⟨1, _⟩ | ⟨2, _⟩ | ⟨3, _⟩ | ⟨4, _⟩ | ⟨5, _⟩ | ⟨6, _⟩ | ⟨7, _⟩ => by decide +kernel +revert

section
variable (V : (c : Dev nD) → (b : Ref sig .tc) → Buf (Elt Ideal) ((c : Thread nD τ).loc b)) (c : Dev nD)

/-- Call `p` writes at point `t` that point's block of `arr`. -/
def Writes : (p : Fin 8) → (t : Fin (cfgs p).N) → Prop
  | ⟨0, _⟩ => fun t => ∀ j : S19456x128.Idx, outBlock (F := Ideal) (iblk V 0 c 0 t) (iblk V 0 c 1 t) (iblk V 0 c 2 t) j
      = arr 0 (V c main_arg0) (V c main_v1) (V c main_v2) (((cfg0.win 3).blk t).view.emb j)
  | ⟨1, _⟩ => fun t => ∀ j : S19456x128.Idx, outBlock (F := Ideal) (iblk V 1 c 0 t) (iblk V 1 c 1 t) (iblk V 1 c 2 t) j
      = arr 1 (V c main_arg0) (V c main_v1) (V c main_v2) (((cfg1.win 3).blk t).view.emb j)
  | ⟨2, _⟩ => fun t => ∀ j : S19456x128.Idx, outBlock (F := Ideal) (iblk V 2 c 0 t) (iblk V 2 c 1 t) (iblk V 2 c 2 t) j
      = arr 2 (V c main_arg0) (V c main_v1) (V c main_v2) (((cfg2.win 3).blk t).view.emb j)
  | ⟨3, _⟩ => fun t => ∀ j : S19456x128.Idx, outBlock (F := Ideal) (iblk V 3 c 0 t) (iblk V 3 c 1 t) (iblk V 3 c 2 t) j
      = arr 3 (V c main_arg0) (V c main_v1) (V c main_v2) (((cfg3.win 3).blk t).view.emb j)
  | ⟨4, _⟩ => fun t => ∀ j : S19456x128.Idx, outBlock (F := Ideal) (iblk V 4 c 0 t) (iblk V 4 c 1 t) (iblk V 4 c 2 t) j
      = arr 4 (V c main_arg0) (V c main_v1) (V c main_v2) (((cfg4.win 3).blk t).view.emb j)
  | ⟨5, _⟩ => fun t => ∀ j : S19456x128.Idx, outBlock (F := Ideal) (iblk V 5 c 0 t) (iblk V 5 c 1 t) (iblk V 5 c 2 t) j
      = arr 5 (V c main_arg0) (V c main_v1) (V c main_v2) (((cfg5.win 3).blk t).view.emb j)
  | ⟨6, _⟩ => fun t => ∀ j : S19456x128.Idx, outBlock (F := Ideal) (iblk V 6 c 0 t) (iblk V 6 c 1 t) (iblk V 6 c 2 t) j
      = arr 6 (V c main_arg0) (V c main_v1) (V c main_v2) (((cfg6.win 3).blk t).view.emb j)
  | ⟨7, _⟩ => fun t => ∀ j : S19456x128.Idx, outBlock (F := Ideal) (iblk V 7 c 0 t) (iblk V 7 c 1 t) (iblk V 7 c 2 t) j
      = arr 7 (V c main_arg0) (V c main_v1) (V c main_v2) (((cfg7.win 3).blk t).view.emb j)

theorem writes : (p : Fin 8) → (t : Fin (cfgs p).N) → Writes V c p t
  | ⟨0, _⟩, t | ⟨1, _⟩, t | ⟨2, _⟩, t | ⟨3, _⟩, t | ⟨4, _⟩, t | ⟨5, _⟩, t | ⟨6, _⟩, t | ⟨7, _⟩, t => by
    unfold Writes
    intro j
    have h := places _ t
    dsimp only [Places] at h
    obtain ⟨ht, ⟨a0, a1⟩, ⟨b0, b1⟩, ⟨d0, d1⟩, e0, e1⟩ := h
    refine outBlock_eq _ _ _ _ t.val ht _ _ _ (fun q d => congrArg (V c main_arg0) (ext2 ?_ ?_))
      (funext fun k => congrArg (V c main_v1) (ext2 ?_ ?_)) (funext fun k => congrArg (V c main_v2) (ext2 ?_ ?_)) j _ ?_ ?_
    · refine Eq.trans (congrArg (fun v => v * 512 + 1 * q.val) a0) ?_; simp; omega
    · refine Eq.trans (congrArg (fun v => v * 1024 + 1 * d.val) a1) ?_; simp
    · refine Eq.trans (congrArg (fun v => v * 4800 + 1 * (k 0).val) b0) ?_; simp
    · refine Eq.trans (congrArg (fun v => v * 1024 + 1 * (k 1).val) b1) ?_; simp
    · refine Eq.trans (congrArg (fun v => v * 1 + 1 * (k 0).val) d0) ?_; simp
    · refine Eq.trans (congrArg (fun v => v * 4800 + 1 * (k 1).val) d1) ?_; simp
    · refine Eq.trans (congrArg (fun v => v * 19456 + 1 * (j 0).val) e0) ?_; simp; omega
    · refine Eq.trans (congrArg (fun v => v * 128 + 1 * (j 1).val) e1) ?_; simp

end

end Cert.ProductsProof

end
-- ==== Proof.ProductsReference.lean ====
/- What the reference's body leaves in each of its outputs, entry by entry, over the extended reals: the array that the
   kernel's call of the same number writes (`ProductsProof.arr`), at the flattened weights and scales. -/
module

public import proofs.«01_k».proof.Proof.Gen.ProductsReferenceIdeal.Value
public import proofs.«01_k».proof.Proof.ProductsArray

@[expose] public section

set_option maxRecDepth 16384

noncomputable section

namespace Cert.ProductsReference

open Cert.ProductsReferenceIdeal Cert.ProductsReferenceIdeal.Gen
open Idealize.ShloMosaic Idealize.ShloMosaic.TcCoe Idealize.SL.Sem
open Cert.ProductsProof (arr ext2)

/-- The weights with spline and output column flattened into one row index, the input dimension last. -/
def flat (w : FVec Ideal S25x1024x192 .fp8e4m3) : FVec Ideal Cert.Products.S4800x1024 .fp8e4m3 := fun i =>
  have h : (i 0).val < 4800 := (i 0).isLt
  w (ix3 ⟨(i 0).val / 192, by omega⟩ (i 1) ⟨(i 0).val % 192, by omega⟩)

/-- The weight scales flattened the same way. -/
def flatScale (s : FVec Ideal S25x192 .f32) : FVec Ideal Cert.Products.S1x4800 .f32 := fun i =>
  have h : (i 1).val < 4800 := (i 1).isLt
  s (ix2 ⟨(i 1).val / 192, by omega⟩ ⟨(i 1).val % 192, by omega⟩)

/-- The padded scaled products of all graphs: row `38 n + j`, lane `l` holds column `c = 128 j + l` of node `n`'s products, which is
    spline `c / 192`, output `c % 192`; zero past the last column. -/
def result (x : FVec Ideal S32768x1024 .fp8e4m3) (w : FVec Ideal S25x1024x192 .fp8e4m3) (s : FVec Ideal S25x192 .f32) (r : Fin 1245184) (l : Fin 128) : EReal :=
  if h : r.val % 38 * 128 + l.val < 4800 then
    (∑ d : Fin 1024, x (ix2 ⟨r.val / 38, by omega⟩ d)
        * w (ix3 ⟨(r.val % 38 * 128 + l.val) / 192, by omega⟩ d ⟨(r.val % 38 * 128 + l.val) % 192, by omega⟩))
      * s (ix2 ⟨(r.val % 38 * 128 + l.val) / 192, by omega⟩ ⟨(r.val % 38 * 128 + l.val) % 192, by omega⟩)
  else 0

/-- The reference's body before it is split by graph, entry by entry. -/
theorem pay_apply (x : FVec Ideal S32768x1024 .fp8e4m3) (w : FVec Ideal S25x1024x192 .fp8e4m3) (s : FVec Ideal S25x192 .f32) (r : Fin 1245184) (l : Fin 128) :
    k0_pay1 (F := Ideal) x w s (ix2 r l) = result x w s r l := by
  unfold result
  pointwise [k0_pay1]
  split_ifs
  · rfl
  · simp

/-- Graph `g`'s part of it is `arr g`. -/
theorem result_eq (g : Fin 8) (x : FVec Ideal S32768x1024 .fp8e4m3) (w : FVec Ideal S25x1024x192 .fp8e4m3) (s : FVec Ideal S25x192 .f32)
    (r : Fin 1245184) (l : Fin 128) (i : S155648x128.Idx) (h0 : r.val = 155648 * g.val + (i 0).val) (h1 : l.val = (i 1).val) :
    result x w s r l = arr g x (flat w) (flatScale s) i := by
  have hm : r.val % 38 = (i 0).val % 38 := by omega
  have hd : r.val / 38 = 4096 * g.val + (i 0).val / 38 := by omega
  unfold result arr
  simp only [hm, hd, h1]
  rfl

/-- The output for graph `g`: rows `155648 g …` of it. -/
def part (g : Fin 8) (x : FVec Ideal S32768x1024 .fp8e4m3) (w : FVec Ideal S25x1024x192 .fp8e4m3) (s : FVec Ideal S25x192 .f32) :
    FVec Ideal S155648x128 .f32 := fun i =>
  have h0 : (i 0).val < 155648 := (i 0).isLt
  k0_pay1 (F := Ideal) x w s (ix2 ⟨155648 * g.val + (i 0).val, by omega⟩ (i 1))

theorem part_eq (g : Fin 8) (x : FVec Ideal S32768x1024 .fp8e4m3) (w : FVec Ideal S25x1024x192 .fp8e4m3) (s : FVec Ideal S25x192 .f32) :
    part g x w s = arr g x (flat w) (flatScale s) :=
  funext fun i => (pay_apply x w s _ (i 1)).trans (result_eq g x w s _ (i 1) i rfl rfl)

/-- The outputs as the body states them. -/
def pay (x : FVec Ideal S32768x1024 .fp8e4m3) (w : FVec Ideal S25x1024x192 .fp8e4m3) (s : FVec Ideal S25x192 .f32) : Fin 8 → FVec Ideal S155648x128 .f32
  | ⟨0, _⟩ => k0_pay2 (F := Ideal) x w s
  | ⟨1, _⟩ => k0_pay3 (F := Ideal) x w s
  | ⟨2, _⟩ => k0_pay4 (F := Ideal) x w s
  | ⟨3, _⟩ => k0_pay5 (F := Ideal) x w s
  | ⟨4, _⟩ => k0_pay6 (F := Ideal) x w s
  | ⟨5, _⟩ => k0_pay7 (F := Ideal) x w s
  | ⟨6, _⟩ => k0_pay8 (F := Ideal) x w s
  | ⟨7, _⟩ => k0_pay9 (F := Ideal) x w s

/-- The reference's outputs are `arr` at each graph. -/
theorem pay_eq (x : FVec Ideal S32768x1024 .fp8e4m3) (w : FVec Ideal S25x1024x192 .fp8e4m3) (s : FVec Ideal S25x192 .f32) :
    (g : Fin 8) → pay x w s g = arr g x (flat w) (flatScale s)
  | ⟨0, _⟩ | ⟨1, _⟩ | ⟨2, _⟩ | ⟨3, _⟩ | ⟨4, _⟩ | ⟨5, _⟩ | ⟨6, _⟩ | ⟨7, _⟩ =>
    Eq.trans (funext fun _ => congrArg (k0_pay1 (F := Ideal) x w s) (ext2 rfl (Nat.zero_add _))) (part_eq _ x w s)

end Cert.ProductsReference

end
-- ==== Proof.ProductsValue.lean ====
/- What the products kernel leaves in its eight results, over the extended reals: for each graph its scaled products, as one
   function of the arguments. -/
module

public import proofs.«01_k».proof.Proof.ProductsReference
public import proofs.«01_k».proof.Proof.ProductsRun
public import Idealize.ShloMosaic.Lib.StableHlo.Run
public import Idealize.ShloMosaic.Lib.Pipeline.ValueKit.Geometry
public import Idealize.ShloMosaic.Lib.Pointwise

@[expose] public section

set_option maxRecDepth 16384

noncomputable section

namespace Cert.ProductsProof

open Cert.Products Cert.Products.Gen
open Idealize.ShloMosaic Idealize.ShloMosaic.TcCoe Idealize.SL.Sem
open Cert.ProductsReference (flat flatScale)

variable (m : (ℓ : Loc nD τ sig) → Buf (Elt Ideal) ℓ) (ρ : Dev nD → PrngReg) (c : Dev nD)

/-- The host stretch lays the weights out with spline and output column flattened and the input dimension last. -/
theorem weights : W m ρ 0 c (Proc.devRef .tc main_v1) = flat (m ((c : Thread nD τ).loc main_arg1)) := by
  show StableHlo.after hostOps0 (W₀ m ρ c) (Proc.devRef .tc main_v1) = _
  unfold_abbrev_sides
  after_results
  funext i
  obtain ⟨k, d, rfl⟩ : ∃ (k : Fin 4800) (d : Fin 1024), i = ix2 k d := ⟨i 0, i 1, funext fun a => by fin_cases a <;> rfl⟩
  unfold flat
  pointwise []

theorem scales : W m ρ 0 c (Proc.devRef .tc main_v2) = flatScale (m ((c : Thread nD τ).loc main_arg2)) := by
  show StableHlo.after hostOps0 (W₀ m ρ c) (Proc.devRef .tc main_v2) = _
  unfold_abbrev_sides
  after_results
  funext i
  obtain ⟨k, d, rfl⟩ : ∃ (k : Fin 1) (d : Fin 4800), i = ix2 k d := ⟨i 0, i 1, funext fun a => by fin_cases a <;> rfl⟩
  unfold flatScale
  pointwise []

section
variable (V : (c : Dev nD) → (b : Ref sig .tc) → Buf (Elt Ideal) ((c : Thread nD τ).loc b))

/-- What the body of call `p` leaves in the output's buffer. -/
def After : (p : Fin 8) → (t : Fin (cfgs p).N) → Prop
  | ⟨0, _⟩ => fun t => (dat V 0 c).after 3 t = outBlock (F := Ideal) (iblk V 0 c 0 t) (iblk V 0 c 1 t) (iblk V 0 c 2 t)
  | ⟨1, _⟩ => fun t => (dat V 1 c).after 3 t = outBlock (F := Ideal) (iblk V 1 c 0 t) (iblk V 1 c 1 t) (iblk V 1 c 2 t)
  | ⟨2, _⟩ => fun t => (dat V 2 c).after 3 t = outBlock (F := Ideal) (iblk V 2 c 0 t) (iblk V 2 c 1 t) (iblk V 2 c 2 t)
  | ⟨3, _⟩ => fun t => (dat V 3 c).after 3 t = outBlock (F := Ideal) (iblk V 3 c 0 t) (iblk V 3 c 1 t) (iblk V 3 c 2 t)
  | ⟨4, _⟩ => fun t => (dat V 4 c).after 3 t = outBlock (F := Ideal) (iblk V 4 c 0 t) (iblk V 4 c 1 t) (iblk V 4 c 2 t)
  | ⟨5, _⟩ => fun t => (dat V 5 c).after 3 t = outBlock (F := Ideal) (iblk V 5 c 0 t) (iblk V 5 c 1 t) (iblk V 5 c 2 t)
  | ⟨6, _⟩ => fun t => (dat V 6 c).after 3 t = outBlock (F := Ideal) (iblk V 6 c 0 t) (iblk V 6 c 1 t) (iblk V 6 c 2 t)
  | ⟨7, _⟩ => fun t => (dat V 7 c).after 3 t = outBlock (F := Ideal) (iblk V 7 c 0 t) (iblk V 7 c 1 t) (iblk V 7 c 2 t)

theorem after : (p : Fin 8) → (t : Fin (cfgs p).N) → After c V p t
  | ⟨0, _⟩, t | ⟨1, _⟩, t | ⟨2, _⟩, t | ⟨3, _⟩, t | ⟨4, _⟩, t | ⟨5, _⟩, t | ⟨6, _⟩, t | ⟨7, _⟩, t => by dsimp only [After]; chain_rfl

/-- Every index of call `p`'s output array lies in some block. -/
def Covered : Fin 8 → Prop
  | ⟨0, _⟩ => ((cfgs 0).win 3).Covers
  | ⟨1, _⟩ => ((cfgs 1).win 3).Covers
  | ⟨2, _⟩ => ((cfgs 2).win 3).Covers
  | ⟨3, _⟩ => ((cfgs 3).win 3).Covers
  | ⟨4, _⟩ => ((cfgs 4).win 3).Covers
  | ⟨5, _⟩ => ((cfgs 5).win 3).Covers
  | ⟨6, _⟩ => ((cfgs 6).win 3).Covers
  | ⟨7, _⟩ => ((cfgs 7).win 3).Covers

theorem covered : (p : Fin 8) → Covered p
  | ⟨0, _⟩ | ⟨1, _⟩ | ⟨2, _⟩ | ⟨3, _⟩ | ⟨4, _⟩ | ⟨5, _⟩ | ⟨6, _⟩ | ⟨7, _⟩ => by dsimp only [Covered]; decide +kernel

/-- Call `p` leaves in its output array the scaled products of graph `p`. -/
def Leaves : Fin 8 → Prop
  | ⟨0, _⟩ => (dat V 0 c).arrAt 3 cfg0.N = arr 0 (V c main_arg0) (V c main_v1) (V c main_v2)
  | ⟨1, _⟩ => (dat V 1 c).arrAt 3 cfg1.N = arr 1 (V c main_arg0) (V c main_v1) (V c main_v2)
  | ⟨2, _⟩ => (dat V 2 c).arrAt 3 cfg2.N = arr 2 (V c main_arg0) (V c main_v1) (V c main_v2)
  | ⟨3, _⟩ => (dat V 3 c).arrAt 3 cfg3.N = arr 3 (V c main_arg0) (V c main_v1) (V c main_v2)
  | ⟨4, _⟩ => (dat V 4 c).arrAt 3 cfg4.N = arr 4 (V c main_arg0) (V c main_v1) (V c main_v2)
  | ⟨5, _⟩ => (dat V 5 c).arrAt 3 cfg5.N = arr 5 (V c main_arg0) (V c main_v1) (V c main_v2)
  | ⟨6, _⟩ => (dat V 6 c).arrAt 3 cfg6.N = arr 6 (V c main_arg0) (V c main_v1) (V c main_v2)
  | ⟨7, _⟩ => (dat V 7 c).arrAt 3 cfg7.N = arr 7 (V c main_arg0) (V c main_v1) (V c main_v2)

theorem leaves : (p : Fin 8) → Leaves c V p
  | ⟨0, _⟩ => Pipeline.Dat.arrAt_eq_of_covers (dat V 0 c) 3 (arr 0 (V c main_arg0) (V c main_v1) (V c main_v2)) (covered 0) fun t _ j =>
    (congrFun (after c V 0 t) j).trans (writes V c 0 t j)
  | ⟨1, _⟩ => Pipeline.Dat.arrAt_eq_of_covers (dat V 1 c) 3 (arr 1 (V c main_arg0) (V c main_v1) (V c main_v2)) (covered 1) fun t _ j =>
    (congrFun (after c V 1 t) j).trans (writes V c 1 t j)
  | ⟨2, _⟩ => Pipeline.Dat.arrAt_eq_of_covers (dat V 2 c) 3 (arr 2 (V c main_arg0) (V c main_v1) (V c main_v2)) (covered 2) fun t _ j =>
    (congrFun (after c V 2 t) j).trans (writes V c 2 t j)
  | ⟨3, _⟩ => Pipeline.Dat.arrAt_eq_of_covers (dat V 3 c) 3 (arr 3 (V c main_arg0) (V c main_v1) (V c main_v2)) (covered 3) fun t _ j =>
    (congrFun (after c V 3 t) j).trans (writes V c 3 t j)
  | ⟨4, _⟩ => Pipeline.Dat.arrAt_eq_of_covers (dat V 4 c) 3 (arr 4 (V c main_arg0) (V c main_v1) (V c main_v2)) (covered 4) fun t _ j =>
    (congrFun (after c V 4 t) j).trans (writes V c 4 t j)
  | ⟨5, _⟩ => Pipeline.Dat.arrAt_eq_of_covers (dat V 5 c) 3 (arr 5 (V c main_arg0) (V c main_v1) (V c main_v2)) (covered 5) fun t _ j =>
    (congrFun (after c V 5 t) j).trans (writes V c 5 t j)
  | ⟨6, _⟩ => Pipeline.Dat.arrAt_eq_of_covers (dat V 6 c) 3 (arr 6 (V c main_arg0) (V c main_v1) (V c main_v2)) (covered 6) fun t _ j =>
    (congrFun (after c V 6 t) j).trans (writes V c 6 t j)
  | ⟨7, _⟩ => Pipeline.Dat.arrAt_eq_of_covers (dat V 7 c) 3 (arr 7 (V c main_arg0) (V c main_v1) (V c main_v2)) (covered 7) fun t _ j =>
    (congrFun (after c V 7 t) j).trans (writes V c 7 t j)

end

/-! ## The results at the end of the run -/

/-- The eight results. -/
def res : Fin 8 → Ref sig .tc
  | ⟨0, _⟩ => main_v3
  | ⟨1, _⟩ => main_v4
  | ⟨2, _⟩ => main_v5
  | ⟨3, _⟩ => main_v6
  | ⟨4, _⟩ => main_v7
  | ⟨5, _⟩ => main_v8
  | ⟨6, _⟩ => main_v9
  | ⟨7, _⟩ => main_v10

/-- A call writes no result but its own. -/
theorem res_in : (q : Fin 8) → ∀ p : Fin 8, p ≠ q → ∀ w : Fin (cfgs q).W, Pipeline.arrRef (cfgs q).spec w = res p → ((cfgs q).win w).isOut = false
  | ⟨0, _⟩ | ⟨1, _⟩ | ⟨2, _⟩ | ⟨3, _⟩ | ⟨4, _⟩ | ⟨5, _⟩ | ⟨6, _⟩ | ⟨7, _⟩ => by decide +kernel +revert

/-- A result stays as its call left it. -/
theorem W_later (p : Fin 8) : (n : ℕ) → (h : p.val + 1 ≤ n) → n ≤ 8 →
    W m ρ n c (Proc.devRef .tc (res p)) = W m ρ (p.val + 1) c (Proc.devRef .tc (res p)) := by
  intro n h
  induction n, h using Nat.le_induction with
  | base => intro _; rfl
  | succ n h ih =>
    intro hn
    refine (W_of m ρ ⟨n, hn⟩ c (res p) (res_in ⟨n, hn⟩ p fun e => ?_)).trans (ih (by omega))
    have := congrArg Fin.val e
    simp at this; omega

/-- The products of graph `g` are of the arguments as launched, whichever call reads them. -/
theorem arr_args (g : Fin 8) (k : ℕ) (hk : k ≤ 8) : arr g (V m ρ k c main_arg0) (V m ρ k c main_v1) (V m ρ k c main_v2)
    = arr g (m ((c : Thread nD τ).loc main_arg0)) (flat (m ((c : Thread nD τ).loc main_arg1))) (flatScale (m ((c : Thread nD τ).loc main_arg2))) := by
  have e0 : V m ρ k c main_arg0 = m ((c : Thread nD τ).loc main_arg0) := W_arg m ρ c main_arg0 (by decide) (by decide) k hk
  have e1 : V m ρ k c main_v1 = flat (m ((c : Thread nD τ).loc main_arg1)) := (W_kept m ρ c main_v1 (by decide) k hk).trans (weights m ρ c)
  have e2 : V m ρ k c main_v2 = flatScale (m ((c : Thread nD τ).loc main_arg2)) := (W_kept m ρ c main_v2 (by decide) k hk).trans (scales m ρ c)
  rw [e0, e1, e2]

/-- Each result ends at the scaled products of its graph. -/
def Ends : Fin 8 → Prop
  | ⟨0, _⟩ => W m ρ 8 c (Proc.devRef .tc main_v3) = arr 0 (m ((c : Thread nD τ).loc main_arg0))
      (flat (m ((c : Thread nD τ).loc main_arg1))) (flatScale (m ((c : Thread nD τ).loc main_arg2)))
  | ⟨1, _⟩ => W m ρ 8 c (Proc.devRef .tc main_v4) = arr 1 (m ((c : Thread nD τ).loc main_arg0))
      (flat (m ((c : Thread nD τ).loc main_arg1))) (flatScale (m ((c : Thread nD τ).loc main_arg2)))
  | ⟨2, _⟩ => W m ρ 8 c (Proc.devRef .tc main_v5) = arr 2 (m ((c : Thread nD τ).loc main_arg0))
      (flat (m ((c : Thread nD τ).loc main_arg1))) (flatScale (m ((c : Thread nD τ).loc main_arg2)))
  | ⟨3, _⟩ => W m ρ 8 c (Proc.devRef .tc main_v6) = arr 3 (m ((c : Thread nD τ).loc main_arg0))
      (flat (m ((c : Thread nD τ).loc main_arg1))) (flatScale (m ((c : Thread nD τ).loc main_arg2)))
  | ⟨4, _⟩ => W m ρ 8 c (Proc.devRef .tc main_v7) = arr 4 (m ((c : Thread nD τ).loc main_arg0))
      (flat (m ((c : Thread nD τ).loc main_arg1))) (flatScale (m ((c : Thread nD τ).loc main_arg2)))
  | ⟨5, _⟩ => W m ρ 8 c (Proc.devRef .tc main_v8) = arr 5 (m ((c : Thread nD τ).loc main_arg0))
      (flat (m ((c : Thread nD τ).loc main_arg1))) (flatScale (m ((c : Thread nD τ).loc main_arg2)))
  | ⟨6, _⟩ => W m ρ 8 c (Proc.devRef .tc main_v9) = arr 6 (m ((c : Thread nD τ).loc main_arg0))
      (flat (m ((c : Thread nD τ).loc main_arg1))) (flatScale (m ((c : Thread nD τ).loc main_arg2)))
  | ⟨7, _⟩ => W m ρ 8 c (Proc.devRef .tc main_v10) = arr 7 (m ((c : Thread nD τ).loc main_arg0))
      (flat (m ((c : Thread nD τ).loc main_arg1))) (flatScale (m ((c : Thread nD τ).loc main_arg2)))

theorem ends : (p : Fin 8) → Ends m ρ c p
  | ⟨0, _⟩ => (W_later m ρ c 0 8 (by decide) le_rfl).trans ((W_arr m ρ 0 c 3).trans ((leaves c (V m ρ 0) 0).trans (arr_args m ρ c 0 0 (by decide))))
  | ⟨1, _⟩ => (W_later m ρ c 1 8 (by decide) le_rfl).trans ((W_arr m ρ 1 c 3).trans ((leaves c (V m ρ 1) 1).trans (arr_args m ρ c 1 1 (by decide))))
  | ⟨2, _⟩ => (W_later m ρ c 2 8 (by decide) le_rfl).trans ((W_arr m ρ 2 c 3).trans ((leaves c (V m ρ 2) 2).trans (arr_args m ρ c 2 2 (by decide))))
  | ⟨3, _⟩ => (W_later m ρ c 3 8 (by decide) le_rfl).trans ((W_arr m ρ 3 c 3).trans ((leaves c (V m ρ 3) 3).trans (arr_args m ρ c 3 3 (by decide))))
  | ⟨4, _⟩ => (W_later m ρ c 4 8 (by decide) le_rfl).trans ((W_arr m ρ 4 c 3).trans ((leaves c (V m ρ 4) 4).trans (arr_args m ρ c 4 4 (by decide))))
  | ⟨5, _⟩ => (W_later m ρ c 5 8 (by decide) le_rfl).trans ((W_arr m ρ 5 c 3).trans ((leaves c (V m ρ 5) 5).trans (arr_args m ρ c 5 5 (by decide))))
  | ⟨6, _⟩ => (W_later m ρ c 6 8 (by decide) le_rfl).trans ((W_arr m ρ 6 c 3).trans ((leaves c (V m ρ 6) 6).trans (arr_args m ρ c 6 6 (by decide))))
  | ⟨7, _⟩ => (W_later m ρ c 7 8 (by decide) le_rfl).trans ((W_arr m ρ 7 c 3).trans ((leaves c (V m ρ 7) 7).trans (arr_args m ρ c 7 7 (by decide))))

end Cert.ProductsProof

end
-- ==== Proof.ProductsAlgebra.lean ====
/- The value claim of the products kernel: its idealization and the idealized reference leave the same eight results. -/
module

public import proofs.«01_k».proof.Defs
public import proofs.«01_k».proof.Proof.ProductsValue
public import proofs.«01_k».proof.Proof.ProductsIdealRun

@[expose] public section

set_option maxRecDepth 65536

noncomputable section

namespace Cert.ProductsProof

open Idealize.ShloMosaic Idealize.ShloMosaic.TcCoe Idealize.SL.Sem
open Cert.ProductsReference (flat flatScale pay pay_eq)

attribute [local instance] Cert.Products.Gen.facts Cert.ProductsIdeal.Gen.facts Cert.ProductsReferenceIdeal.Gen.facts

/-- Every run of the products program leaves the scaled products of each graph, and the arguments as launched. -/
def Values : Prop := ∀ (m : (ℓ : Loc Cert.Products.nD Cert.Products.τ Cert.Products.sig) → Buf (Elt Ideal) ℓ) (ρ : Dev Cert.Products.nD → PrngReg),
    θ_run (Cert.Products.defs (F := Ideal)) (onTc (τ := Cert.Products.τ) (Cert.Products.main (F := Ideal))) ⟨m, fun _ => 0, ρ⟩ (fun r => ∀ c : Dev Cert.Products.nD,
      r.2.mem ((c.tc : Thread Cert.Products.nD Cert.Products.τ).loc Cert.Products.main_v3) = arr 0 (m ((c.tc : Thread Cert.Products.nD Cert.Products.τ).loc Cert.Products.main_arg0)) (flat (m ((c.tc : Thread Cert.Products.nD Cert.Products.τ).loc Cert.Products.main_arg1))) (flatScale (m ((c.tc : Thread Cert.Products.nD Cert.Products.τ).loc Cert.Products.main_arg2)))
      ∧ r.2.mem ((c.tc : Thread Cert.Products.nD Cert.Products.τ).loc Cert.Products.main_v4) = arr 1 (m ((c.tc : Thread Cert.Products.nD Cert.Products.τ).loc Cert.Products.main_arg0)) (flat (m ((c.tc : Thread Cert.Products.nD Cert.Products.τ).loc Cert.Products.main_arg1))) (flatScale (m ((c.tc : Thread Cert.Products.nD Cert.Products.τ).loc Cert.Products.main_arg2)))
      ∧ r.2.mem ((c.tc : Thread Cert.Products.nD Cert.Products.τ).loc Cert.Products.main_v5) = arr 2 (m ((c.tc : Thread Cert.Products.nD Cert.Products.τ).loc Cert.Products.main_arg0)) (flat (m ((c.tc : Thread Cert.Products.nD Cert.Products.τ).loc Cert.Products.main_arg1))) (flatScale (m ((c.tc : Thread Cert.Products.nD Cert.Products.τ).loc Cert.Products.main_arg2)))
      ∧ r.2.mem ((c.tc : Thread Cert.Products.nD Cert.Products.τ).loc Cert.Products.main_v6) = arr 3 (m ((c.tc : Thread Cert.Products.nD Cert.Products.τ).loc Cert.Products.main_arg0)) (flat (m ((c.tc : Thread Cert.Products.nD Cert.Products.τ).loc Cert.Products.main_arg1))) (flatScale (m ((c.tc : Thread Cert.Products.nD Cert.Products.τ).loc Cert.Products.main_arg2)))
      ∧ r.2.mem ((c.tc : Thread Cert.Products.nD Cert.Products.τ).loc Cert.Products.main_v7) = arr 4 (m ((c.tc : Thread Cert.Products.nD Cert.Products.τ).loc Cert.Products.main_arg0)) (flat (m ((c.tc : Thread Cert.Products.nD Cert.Products.τ).loc Cert.Products.main_arg1))) (flatScale (m ((c.tc : Thread Cert.Products.nD Cert.Products.τ).loc Cert.Products.main_arg2)))
      ∧ r.2.mem ((c.tc : Thread Cert.Products.nD Cert.Products.τ).loc Cert.Products.main_v8) = arr 5 (m ((c.tc : Thread Cert.Products.nD Cert.Products.τ).loc Cert.Products.main_arg0)) (flat (m ((c.tc : Thread Cert.Products.nD Cert.Products.τ).loc Cert.Products.main_arg1))) (flatScale (m ((c.tc : Thread Cert.Products.nD Cert.Products.τ).loc Cert.Products.main_arg2)))
      ∧ r.2.mem ((c.tc : Thread Cert.Products.nD Cert.Products.τ).loc Cert.Products.main_v9) = arr 6 (m ((c.tc : Thread Cert.Products.nD Cert.Products.τ).loc Cert.Products.main_arg0)) (flat (m ((c.tc : Thread Cert.Products.nD Cert.Products.τ).loc Cert.Products.main_arg1))) (flatScale (m ((c.tc : Thread Cert.Products.nD Cert.Products.τ).loc Cert.Products.main_arg2)))
      ∧ r.2.mem ((c.tc : Thread Cert.Products.nD Cert.Products.τ).loc Cert.Products.main_v10) = arr 7 (m ((c.tc : Thread Cert.Products.nD Cert.Products.τ).loc Cert.Products.main_arg0)) (flat (m ((c.tc : Thread Cert.Products.nD Cert.Products.τ).loc Cert.Products.main_arg1))) (flatScale (m ((c.tc : Thread Cert.Products.nD Cert.Products.τ).loc Cert.Products.main_arg2)))
      ∧ r.2.mem ((c.tc : Thread Cert.Products.nD Cert.Products.τ).loc Cert.Products.main_arg0) = m ((c.tc : Thread Cert.Products.nD Cert.Products.τ).loc Cert.Products.main_arg0)
      ∧ r.2.mem ((c.tc : Thread Cert.Products.nD Cert.Products.τ).loc Cert.Products.main_arg1) = m ((c.tc : Thread Cert.Products.nD Cert.Products.τ).loc Cert.Products.main_arg1)
      ∧ r.2.mem ((c.tc : Thread Cert.Products.nD Cert.Products.τ).loc Cert.Products.main_arg2) = m ((c.tc : Thread Cert.Products.nD Cert.Products.τ).loc Cert.Products.main_arg2))

/-- The same of its idealization. -/
def ValuesIdeal : Prop := ∀ (m : (ℓ : Loc Cert.ProductsIdeal.nD Cert.ProductsIdeal.τ Cert.ProductsIdeal.sig) → Buf (Elt Ideal) ℓ) (ρ : Dev Cert.ProductsIdeal.nD → PrngReg),
    θ_run (Cert.ProductsIdeal.defs (F := Ideal)) (onTc (τ := Cert.ProductsIdeal.τ) (Cert.ProductsIdeal.main (F := Ideal))) ⟨m, fun _ => 0, ρ⟩ (fun r => ∀ c : Dev Cert.ProductsIdeal.nD,
      r.2.mem ((c.tc : Thread Cert.ProductsIdeal.nD Cert.ProductsIdeal.τ).loc Cert.ProductsIdeal.main_v3) = arr 0 (m ((c.tc : Thread Cert.ProductsIdeal.nD Cert.ProductsIdeal.τ).loc Cert.ProductsIdeal.main_arg0)) (flat (m ((c.tc : Thread Cert.ProductsIdeal.nD Cert.ProductsIdeal.τ).loc Cert.ProductsIdeal.main_arg1))) (flatScale (m ((c.tc : Thread Cert.ProductsIdeal.nD Cert.ProductsIdeal.τ).loc Cert.ProductsIdeal.main_arg2)))
      ∧ r.2.mem ((c.tc : Thread Cert.ProductsIdeal.nD Cert.ProductsIdeal.τ).loc Cert.ProductsIdeal.main_v4) = arr 1 (m ((c.tc : Thread Cert.ProductsIdeal.nD Cert.ProductsIdeal.τ).loc Cert.ProductsIdeal.main_arg0)) (flat (m ((c.tc : Thread Cert.ProductsIdeal.nD Cert.ProductsIdeal.τ).loc Cert.ProductsIdeal.main_arg1))) (flatScale (m ((c.tc : Thread Cert.ProductsIdeal.nD Cert.ProductsIdeal.τ).loc Cert.ProductsIdeal.main_arg2)))
      ∧ r.2.mem ((c.tc : Thread Cert.ProductsIdeal.nD Cert.ProductsIdeal.τ).loc Cert.ProductsIdeal.main_v5) = arr 2 (m ((c.tc : Thread Cert.ProductsIdeal.nD Cert.ProductsIdeal.τ).loc Cert.ProductsIdeal.main_arg0)) (flat (m ((c.tc : Thread Cert.ProductsIdeal.nD Cert.ProductsIdeal.τ).loc Cert.ProductsIdeal.main_arg1))) (flatScale (m ((c.tc : Thread Cert.ProductsIdeal.nD Cert.ProductsIdeal.τ).loc Cert.ProductsIdeal.main_arg2)))
      ∧ r.2.mem ((c.tc : Thread Cert.ProductsIdeal.nD Cert.ProductsIdeal.τ).loc Cert.ProductsIdeal.main_v6) = arr 3 (m ((c.tc : Thread Cert.ProductsIdeal.nD Cert.ProductsIdeal.τ).loc Cert.ProductsIdeal.main_arg0)) (flat (m ((c.tc : Thread Cert.ProductsIdeal.nD Cert.ProductsIdeal.τ).loc Cert.ProductsIdeal.main_arg1))) (flatScale (m ((c.tc : Thread Cert.ProductsIdeal.nD Cert.ProductsIdeal.τ).loc Cert.ProductsIdeal.main_arg2)))
      ∧ r.2.mem ((c.tc : Thread Cert.ProductsIdeal.nD Cert.ProductsIdeal.τ).loc Cert.ProductsIdeal.main_v7) = arr 4 (m ((c.tc : Thread Cert.ProductsIdeal.nD Cert.ProductsIdeal.τ).loc Cert.ProductsIdeal.main_arg0)) (flat (m ((c.tc : Thread Cert.ProductsIdeal.nD Cert.ProductsIdeal.τ).loc Cert.ProductsIdeal.main_arg1))) (flatScale (m ((c.tc : Thread Cert.ProductsIdeal.nD Cert.ProductsIdeal.τ).loc Cert.ProductsIdeal.main_arg2)))
      ∧ r.2.mem ((c.tc : Thread Cert.ProductsIdeal.nD Cert.ProductsIdeal.τ).loc Cert.ProductsIdeal.main_v8) = arr 5 (m ((c.tc : Thread Cert.ProductsIdeal.nD Cert.ProductsIdeal.τ).loc Cert.ProductsIdeal.main_arg0)) (flat (m ((c.tc : Thread Cert.ProductsIdeal.nD Cert.ProductsIdeal.τ).loc Cert.ProductsIdeal.main_arg1))) (flatScale (m ((c.tc : Thread Cert.ProductsIdeal.nD Cert.ProductsIdeal.τ).loc Cert.ProductsIdeal.main_arg2)))
      ∧ r.2.mem ((c.tc : Thread Cert.ProductsIdeal.nD Cert.ProductsIdeal.τ).loc Cert.ProductsIdeal.main_v9) = arr 6 (m ((c.tc : Thread Cert.ProductsIdeal.nD Cert.ProductsIdeal.τ).loc Cert.ProductsIdeal.main_arg0)) (flat (m ((c.tc : Thread Cert.ProductsIdeal.nD Cert.ProductsIdeal.τ).loc Cert.ProductsIdeal.main_arg1))) (flatScale (m ((c.tc : Thread Cert.ProductsIdeal.nD Cert.ProductsIdeal.τ).loc Cert.ProductsIdeal.main_arg2)))
      ∧ r.2.mem ((c.tc : Thread Cert.ProductsIdeal.nD Cert.ProductsIdeal.τ).loc Cert.ProductsIdeal.main_v10) = arr 7 (m ((c.tc : Thread Cert.ProductsIdeal.nD Cert.ProductsIdeal.τ).loc Cert.ProductsIdeal.main_arg0)) (flat (m ((c.tc : Thread Cert.ProductsIdeal.nD Cert.ProductsIdeal.τ).loc Cert.ProductsIdeal.main_arg1))) (flatScale (m ((c.tc : Thread Cert.ProductsIdeal.nD Cert.ProductsIdeal.τ).loc Cert.ProductsIdeal.main_arg2)))
      ∧ r.2.mem ((c.tc : Thread Cert.ProductsIdeal.nD Cert.ProductsIdeal.τ).loc Cert.ProductsIdeal.main_arg0) = m ((c.tc : Thread Cert.ProductsIdeal.nD Cert.ProductsIdeal.τ).loc Cert.ProductsIdeal.main_arg0)
      ∧ r.2.mem ((c.tc : Thread Cert.ProductsIdeal.nD Cert.ProductsIdeal.τ).loc Cert.ProductsIdeal.main_arg1) = m ((c.tc : Thread Cert.ProductsIdeal.nD Cert.ProductsIdeal.τ).loc Cert.ProductsIdeal.main_arg1)
      ∧ r.2.mem ((c.tc : Thread Cert.ProductsIdeal.nD Cert.ProductsIdeal.τ).loc Cert.ProductsIdeal.main_arg2) = m ((c.tc : Thread Cert.ProductsIdeal.nD Cert.ProductsIdeal.τ).loc Cert.ProductsIdeal.main_arg2))

/-- The same of the idealized reference. -/
def ValuesReference : Prop := ∀ (m : (ℓ : Loc Cert.ProductsReferenceIdeal.nD Cert.ProductsReferenceIdeal.τ Cert.ProductsReferenceIdeal.sig) → Buf (Elt Ideal) ℓ) (ρ : Dev Cert.ProductsReferenceIdeal.nD → PrngReg),
    θ_run (Cert.ProductsReferenceIdeal.defs (F := Ideal)) (onTc (τ := Cert.ProductsReferenceIdeal.τ) (Cert.ProductsReferenceIdeal.main (F := Ideal))) ⟨m, fun _ => 0, ρ⟩ (fun r => ∀ c : Dev Cert.ProductsReferenceIdeal.nD,
      r.2.mem ((c.tc : Thread Cert.ProductsReferenceIdeal.nD Cert.ProductsReferenceIdeal.τ).loc Cert.ProductsReferenceIdeal.main_v0_0) = arr 0 (m ((c.tc : Thread Cert.ProductsReferenceIdeal.nD Cert.ProductsReferenceIdeal.τ).loc Cert.ProductsReferenceIdeal.main_arg0)) (flat (m ((c.tc : Thread Cert.ProductsReferenceIdeal.nD Cert.ProductsReferenceIdeal.τ).loc Cert.ProductsReferenceIdeal.main_arg1))) (flatScale (m ((c.tc : Thread Cert.ProductsReferenceIdeal.nD Cert.ProductsReferenceIdeal.τ).loc Cert.ProductsReferenceIdeal.main_arg2)))
      ∧ r.2.mem ((c.tc : Thread Cert.ProductsReferenceIdeal.nD Cert.ProductsReferenceIdeal.τ).loc Cert.ProductsReferenceIdeal.main_v0_1) = arr 1 (m ((c.tc : Thread Cert.ProductsReferenceIdeal.nD Cert.ProductsReferenceIdeal.τ).loc Cert.ProductsReferenceIdeal.main_arg0)) (flat (m ((c.tc : Thread Cert.ProductsReferenceIdeal.nD Cert.ProductsReferenceIdeal.τ).loc Cert.ProductsReferenceIdeal.main_arg1))) (flatScale (m ((c.tc : Thread Cert.ProductsReferenceIdeal.nD Cert.ProductsReferenceIdeal.τ).loc Cert.ProductsReferenceIdeal.main_arg2)))
      ∧ r.2.mem ((c.tc : Thread Cert.ProductsReferenceIdeal.nD Cert.ProductsReferenceIdeal.τ).loc Cert.ProductsReferenceIdeal.main_v0_2) = arr 2 (m ((c.tc : Thread Cert.ProductsReferenceIdeal.nD Cert.ProductsReferenceIdeal.τ).loc Cert.ProductsReferenceIdeal.main_arg0)) (flat (m ((c.tc : Thread Cert.ProductsReferenceIdeal.nD Cert.ProductsReferenceIdeal.τ).loc Cert.ProductsReferenceIdeal.main_arg1))) (flatScale (m ((c.tc : Thread Cert.ProductsReferenceIdeal.nD Cert.ProductsReferenceIdeal.τ).loc Cert.ProductsReferenceIdeal.main_arg2)))
      ∧ r.2.mem ((c.tc : Thread Cert.ProductsReferenceIdeal.nD Cert.ProductsReferenceIdeal.τ).loc Cert.ProductsReferenceIdeal.main_v0_3) = arr 3 (m ((c.tc : Thread Cert.ProductsReferenceIdeal.nD Cert.ProductsReferenceIdeal.τ).loc Cert.ProductsReferenceIdeal.main_arg0)) (flat (m ((c.tc : Thread Cert.ProductsReferenceIdeal.nD Cert.ProductsReferenceIdeal.τ).loc Cert.ProductsReferenceIdeal.main_arg1))) (flatScale (m ((c.tc : Thread Cert.ProductsReferenceIdeal.nD Cert.ProductsReferenceIdeal.τ).loc Cert.ProductsReferenceIdeal.main_arg2)))
      ∧ r.2.mem ((c.tc : Thread Cert.ProductsReferenceIdeal.nD Cert.ProductsReferenceIdeal.τ).loc Cert.ProductsReferenceIdeal.main_v0_4) = arr 4 (m ((c.tc : Thread Cert.ProductsReferenceIdeal.nD Cert.ProductsReferenceIdeal.τ).loc Cert.ProductsReferenceIdeal.main_arg0)) (flat (m ((c.tc : Thread Cert.ProductsReferenceIdeal.nD Cert.ProductsReferenceIdeal.τ).loc Cert.ProductsReferenceIdeal.main_arg1))) (flatScale (m ((c.tc : Thread Cert.ProductsReferenceIdeal.nD Cert.ProductsReferenceIdeal.τ).loc Cert.ProductsReferenceIdeal.main_arg2)))
      ∧ r.2.mem ((c.tc : Thread Cert.ProductsReferenceIdeal.nD Cert.ProductsReferenceIdeal.τ).loc Cert.ProductsReferenceIdeal.main_v0_5) = arr 5 (m ((c.tc : Thread Cert.ProductsReferenceIdeal.nD Cert.ProductsReferenceIdeal.τ).loc Cert.ProductsReferenceIdeal.main_arg0)) (flat (m ((c.tc : Thread Cert.ProductsReferenceIdeal.nD Cert.ProductsReferenceIdeal.τ).loc Cert.ProductsReferenceIdeal.main_arg1))) (flatScale (m ((c.tc : Thread Cert.ProductsReferenceIdeal.nD Cert.ProductsReferenceIdeal.τ).loc Cert.ProductsReferenceIdeal.main_arg2)))
      ∧ r.2.mem ((c.tc : Thread Cert.ProductsReferenceIdeal.nD Cert.ProductsReferenceIdeal.τ).loc Cert.ProductsReferenceIdeal.main_v0_6) = arr 6 (m ((c.tc : Thread Cert.ProductsReferenceIdeal.nD Cert.ProductsReferenceIdeal.τ).loc Cert.ProductsReferenceIdeal.main_arg0)) (flat (m ((c.tc : Thread Cert.ProductsReferenceIdeal.nD Cert.ProductsReferenceIdeal.τ).loc Cert.ProductsReferenceIdeal.main_arg1))) (flatScale (m ((c.tc : Thread Cert.ProductsReferenceIdeal.nD Cert.ProductsReferenceIdeal.τ).loc Cert.ProductsReferenceIdeal.main_arg2)))
      ∧ r.2.mem ((c.tc : Thread Cert.ProductsReferenceIdeal.nD Cert.ProductsReferenceIdeal.τ).loc Cert.ProductsReferenceIdeal.main_v0_7) = arr 7 (m ((c.tc : Thread Cert.ProductsReferenceIdeal.nD Cert.ProductsReferenceIdeal.τ).loc Cert.ProductsReferenceIdeal.main_arg0)) (flat (m ((c.tc : Thread Cert.ProductsReferenceIdeal.nD Cert.ProductsReferenceIdeal.τ).loc Cert.ProductsReferenceIdeal.main_arg1))) (flatScale (m ((c.tc : Thread Cert.ProductsReferenceIdeal.nD Cert.ProductsReferenceIdeal.τ).loc Cert.ProductsReferenceIdeal.main_arg2)))
      ∧ r.2.mem ((c.tc : Thread Cert.ProductsReferenceIdeal.nD Cert.ProductsReferenceIdeal.τ).loc Cert.ProductsReferenceIdeal.main_arg0) = m ((c.tc : Thread Cert.ProductsReferenceIdeal.nD Cert.ProductsReferenceIdeal.τ).loc Cert.ProductsReferenceIdeal.main_arg0)
      ∧ r.2.mem ((c.tc : Thread Cert.ProductsReferenceIdeal.nD Cert.ProductsReferenceIdeal.τ).loc Cert.ProductsReferenceIdeal.main_arg1) = m ((c.tc : Thread Cert.ProductsReferenceIdeal.nD Cert.ProductsReferenceIdeal.τ).loc Cert.ProductsReferenceIdeal.main_arg1)
      ∧ r.2.mem ((c.tc : Thread Cert.ProductsReferenceIdeal.nD Cert.ProductsReferenceIdeal.τ).loc Cert.ProductsReferenceIdeal.main_arg2) = m ((c.tc : Thread Cert.ProductsReferenceIdeal.nD Cert.ProductsReferenceIdeal.τ).loc Cert.ProductsReferenceIdeal.main_arg2))

open Cert.Products Cert.Products.Gen in
theorem values : Values := fun m ρ =>
  (θ_run defs _ _).mono (fun r h c => ⟨
    (h.1 c _ (mem_uc main_v3 (by decide))).trans (ends m ρ c 0),
    (h.1 c _ (mem_uc main_v4 (by decide))).trans (ends m ρ c 1),
    (h.1 c _ (mem_uc main_v5 (by decide))).trans (ends m ρ c 2),
    (h.1 c _ (mem_uc main_v6 (by decide))).trans (ends m ρ c 3),
    (h.1 c _ (mem_uc main_v7 (by decide))).trans (ends m ρ c 4),
    (h.1 c _ (mem_uc main_v8 (by decide))).trans (ends m ρ c 5),
    (h.1 c _ (mem_uc main_v9 (by decide))).trans (ends m ρ c 6),
    (h.1 c _ (mem_uc main_v10 (by decide))).trans (ends m ρ c 7),
    (h.1 c _ (mem_uc main_arg0 (by decide))).trans (W_arg m ρ c main_arg0 (by decide) (by decide) 8 le_rfl),
    (h.1 c _ (mem_uc main_arg1 (by decide))).trans (W_arg m ρ c main_arg1 (by decide) (by decide) 8 le_rfl),
    (h.1 c _ (mem_uc main_arg2 (by decide))).trans (W_arg m ρ c main_arg2 (by decide) (by decide) 8 le_rfl)⟩) (run m ρ)

theorem values_same : ValuesIdeal = Values := by chain_rfl

theorem values_ideal : ValuesIdeal := values_same.mpr values

open Cert.ProductsReferenceIdeal Cert.ProductsReferenceIdeal.Gen in
theorem values_reference : ValuesReference := fun m ρ =>
  (θ_run defs _ _).mono (fun r h c => by
    obtain ⟨h0, h1, h2, h3, h4, h5, h6, h7, a⟩ := h c
    exact ⟨h0.trans (pay_eq _ _ _ 0), h1.trans (pay_eq _ _ _ 1), h2.trans (pay_eq _ _ _ 2), h3.trans (pay_eq _ _ _ 3),
      h4.trans (pay_eq _ _ _ 4), h5.trans (pay_eq _ _ _ 5), h6.trans (pay_eq _ _ _ 6), h7.trans (pay_eq _ _ _ 7), a⟩)
    (Cert.ProductsReferenceIdeal.Value.run m ρ)

/-- The value claim. -/
theorem algebraic : Cert.algebraic_ProductsIdeal_ProductsReferenceIdeal := by
  intro m g m' g' _ hargs
  refine ⟨_, _, _, _, _, _, _, _, values_ideal m g, (θ_run _ _ _).mono (fun r h c => ?_) (values_reference m' g')⟩
  obtain ⟨h0, h1, h2, h3, h4, h5, h6, h7, a⟩ := h c
  obtain ⟨e0, e1, e2⟩ := hargs c
  rw [e0, e1, e2] at h0 h1 h2 h3 h4 h5 h6 h7
  exact ⟨h0, h1, h2, h3, h4, h5, h6, h7, a⟩

end Cert.ProductsProof

end
-- ==== Proof.FinishSpec.lean ====
/- The two results of the finish over the extended reals, as functions of its arguments, transposed as the programs return
   them: column `n` is node `n`. -/
module

public import Idealize.ShloMosaic.Lib.Pointwise

@[expose] public section

noncomputable section

namespace Cert.FinishProof

open Idealize.ShloMosaic

/-- Two indices with equal coordinates are equal. -/
theorem ext2 {n0 n1 : ℕ} {i j : Shape.Idx ⟨2, ![n0, n1]⟩} (h0 : (i 0).val = (j 0).val) (h1 : (i 1).val = (j 1).val) : i = j := by
  funext a
  fin_cases a
  · exact Fin.ext h0
  · exact Fin.ext h1

theorem ext3 {n0 n1 n2 : ℕ} {i j : Shape.Idx ⟨3, ![n0, n1, n2]⟩} (h0 : (i 0).val = (j 0).val) (h1 : (i 1).val = (j 1).val)
    (h2 : (i 2).val = (j 2).val) : i = j := by
  funext a
  fin_cases a
  · exact Fin.ext h0
  · exact Fin.ext h1
  · exact Fin.ext h2

/-- agg: node `n` is node `n % 4096` of graph `n / 4096`, whose part holds its 256 words in rows `2 (n % 4096)` and the next. -/
def aggAt (A : Fin 8 → FVec Ideal ⟨2, ![8192, 128]⟩ .f32) (y : Shape.Idx ⟨2, ![192, 32768]⟩) : EReal :=
  have h0 : (y 0).val < 192 := (y 0).isLt
  have h1 : (y 1).val < 32768 := (y 1).isLt
  A ⟨(y 1).val / 4096, by omega⟩ (ix2 ⟨2 * ((y 1).val % 4096) + (y 0).val / 128, by omega⟩ ⟨(y 0).val % 128, by omega⟩)

/-- The root term with both scales, and the bias. -/
def rootAt (x : FVec Ideal ⟨2, ![32768, 1024]⟩ .fp8e4m3) (xs : FVec Ideal ⟨1, ![32768]⟩ .f32) (w : FVec Ideal ⟨2, ![1024, 192]⟩ .fp8e4m3)
    (ws b : FVec Ideal ⟨1, ![192]⟩ .f32) (y : Shape.Idx ⟨2, ![192, 32768]⟩) : EReal :=
  (∑ d : Fin 1024, w (ix2 d (y 0)) * x (ix2 (y 1) d)) * xs (ix1 (y 1)) * ws (ix1 (y 0)) + b (ix1 (y 0))

end Cert.FinishProof

end
-- ==== Proof.FinishBlock.lean ====
/- What one grid point of the finish kernel leaves in its two output blocks: the same two functions of the input blocks in
   all eight cases of the body, at the block of the case's own part of agg. -/
module

public import proofs.«01_k».proof.Proof.Gen.FinishIdeal.Value
public import proofs.«01_k».proof.Proof.FinishSpec
public import Idealize.ShloMosaic.Lib.Pipeline.ValueKit.Geometry
public import Idealize.ShloMosaic.Lib.Pipeline.ValueKit
public import Idealize.ShloMosaic.Lib.Pointwise

@[expose] public section

noncomputable section

namespace Cert.FinishProof

open Cert.FinishIdeal Cert.FinishIdeal.Gen
open Idealize.ShloMosaic Idealize.ShloMosaic.TcCoe Idealize.SL.Sem

section Blocks

variable {F : FTy → Type} [FloatOps F]

/-- The even rows of a part's block: words 0 to 127 of each node. -/
def even (a : Vec F S1024x128 .f32) : Vec F S512x128 .f32 := fun i =>
  a ((⟨![0, 0], S512x128.size, ![2, 1], inb_S1024x128_S512x128_0_0_s_2_1⟩ : LoadRect S1024x128).idx i)

/-- The odd rows of a part's block: words 128 to 255 of each node. -/
def odd (a : Vec F S1024x128 .f32) : Vec F S512x128 .f32 := fun i =>
  a ((⟨![1, 0], S512x128.size, ![2, 1], inb_S1024x128_S512x128_1_0_s_2_1⟩ : LoadRect S1024x128).idx i)

/-- The agg block: the even rows transposed, over the first 64 rows of the odd rows transposed. -/
def aggBlock (a : Vec F S1024x128 .f32) : Vec F S192x512 .f32 :=
  View.canon
    [⟨Rect.unit ![128, 0] S64x512.size inb_S192x512_S64x512_128_0, k0_pay2 (odd a)⟩,
     ⟨Rect.unit ![0, 0] S128x512.size inb_S192x512_S128x512_0_0, k0_pay1 (even a)⟩]

/-- The out block: the agg block with the root block added, rounded. -/
def outBlock (v : FVec F S192x512 .f32) (a : Vec F S1024x128 .f32) : Vec F S192x512 .bf16 :=
  View.canon
    [⟨Rect.unit ![128, 0] S64x512.size inb_S192x512_S64x512_128_0, k0_pay4 v (odd a)⟩,
     ⟨Rect.unit ![0, 0] S128x512.size inb_S192x512_S128x512_0_0, k0_pay3 v (even a)⟩]

variable (m : (ℓ : Loc nD τ sig) → Buf (Elt F) ℓ)

/-- The root block at a grid point. -/
def root (c : Dev nD) (t : Fin cfg0.N) : FVec F S192x512 .f32 :=
  k0_pay29 (iblk m c 1 t) (iblk m c 0 t) (iblk m c 4 t) (iblk m c 2 t) (iblk m c 3 t)

/-- The block of part `k` of agg at a grid point. -/
def part (c : Dev nD) (t : Fin cfg0.N) : Fin 8 → Vec F S1024x128 .f32
  | ⟨0, _⟩ => iblk m c 5 t
  | ⟨1, _⟩ => iblk m c 6 t
  | ⟨2, _⟩ => iblk m c 7 t
  | ⟨3, _⟩ => iblk m c 8 t
  | ⟨4, _⟩ => iblk m c 9 t
  | ⟨5, _⟩ => iblk m c 10 t
  | ⟨6, _⟩ => iblk m c 11 t
  | ⟨7, _⟩ => iblk m c 12 t

/-- A strided load of a part's block. -/
theorem read_even (a : Vec F S1024x128 .f32) (M : Memref sig .tc .vmem S1024x128 .f32) (hM : M.IsWhole) :
    M.view.readAt (Elt F) ⟨![0, 0], S512x128.size, ![2, 1], inb_S1024x128_S512x128_0_0_s_2_1⟩ (hM.unread a) = even a := by
  funext i
  exact congrFun (hM.read_unread a) _
theorem read_odd (a : Vec F S1024x128 .f32) (M : Memref sig .tc .vmem S1024x128 .f32) (hM : M.IsWhole) :
    M.view.readAt (Elt F) ⟨![1, 0], S512x128.size, ![2, 1], inb_S1024x128_S512x128_1_0_s_2_1⟩ (hM.unread a) = odd a := by
  funext i
  exact congrFun (hM.read_unread a) _

/-- A point of graph `k` leaves the blocks of part `k`. -/
theorem leaves (c : Dev nD) (t : Fin cfg0.N) (k : Fin 8) (h : t.val / 8 = k.val) :
    outsAt0 m c t.val t.isLt = (outBlock (root m c t) (part m c t k), aggBlock (part m c t k)) := by
  have ht : t.val < 64 := t.isLt
  match k, h with
  | ⟨0, _⟩, h | ⟨1, _⟩, h | ⟨2, _⟩, h | ⟨3, _⟩, h | ⟨4, _⟩, h | ⟨5, _⟩, h | ⟨6, _⟩, h | ⟨7, _⟩, h =>
    dsimp only at h
    first
    | rw [outsAt0_A m c t (by omega) (by omega) (by omega) (by omega) (by omega) (by omega) (by omega) (by omega)]
    | rw [outsAt0_B m c t (by omega) (by omega) (by omega) (by omega) (by omega) (by omega) (by omega) (by omega)]
    | rw [outsAt0_C m c t (by omega) (by omega) (by omega) (by omega) (by omega) (by omega) (by omega) (by omega)]
    | rw [outsAt0_D m c t (by omega) (by omega) (by omega) (by omega) (by omega) (by omega) (by omega) (by omega)]
    | rw [outsAt0_E m c t (by omega) (by omega) (by omega) (by omega) (by omega) (by omega) (by omega) (by omega)]
    | rw [outsAt0_F m c t (by omega) (by omega) (by omega) (by omega) (by omega) (by omega) (by omega) (by omega)]
    | rw [outsAt0_G m c t (by omega) (by omega) (by omega) (by omega) (by omega) (by omega) (by omega) (by omega)]
    | rw [outsAt0_H m c t (by omega) (by omega) (by omega) (by omega) (by omega) (by omega) (by omega) (by omega)]
    refine Prod.ext ?_ ?_ <;> dsimp only <;> frame_out <;> rw [read_odd, read_even] <;> rfl

/-! ### The blocks over the extended reals -/

end Blocks

section Values

/-- A row of a part's block. -/
theorem even_apply (a : Vec Ideal S1024x128 .f32) (q : Fin 512) (l : Fin 128) :
    even (F := Ideal) a (ix2 q l) = a (ix2 ⟨2 * q.val, by omega⟩ l) := by
  unfold even
  pointwise []

theorem odd_apply (a : Vec Ideal S1024x128 .f32) (q : Fin 512) (l : Fin 128) :
    odd (F := Ideal) a (ix2 q l) = a (ix2 ⟨1 + 2 * q.val, by omega⟩ l) := by
  unfold odd
  pointwise []

/-- The agg block as one function of its index: word `r` of node `q` is lane `r % 128` of row `2 q + r / 128`. -/
def aggFn (a : Vec Ideal S1024x128 .f32) (y : S192x512.Idx) : EReal :=
  have h0 : (y 0).val < 192 := (y 0).isLt
  have h1 : (y 1).val < 512 := (y 1).isLt
  a (ix2 ⟨2 * (y 1).val + (y 0).val / 128, by omega⟩ ⟨(y 0).val % 128, by omega⟩)

/-- The two pieces cover a block. -/
theorem cover2 {e : EltTy} (u : Vec Ideal S64x512 e) (v : Vec Ideal S128x512 e) (y : S192x512.Idx) :
    ∃ p ∈ ([⟨Rect.unit (s := S192x512) ![128, 0] S64x512.size inb_S192x512_S64x512_128_0, u⟩,
      ⟨Rect.unit (s := S192x512) ![0, 0] S128x512.size inb_S192x512_S128x512_0_0, v⟩] : List (View.Piece (Elt Ideal) S192x512 e)), y ∈ p.1.set := by
  have h0 : (y 0).val < 192 := (y 0).isLt
  have h1 : (y 1).val < 512 := (y 1).isLt
  by_cases h : (y 0).val < 128
  · refine ⟨_, List.mem_cons_of_mem _ List.mem_cons_self, ?_⟩
    refine (Rect.mem_set_unit (inb := inb_S192x512_S128x512_0_0)).mpr fun a => ?_
    fin_cases a
    · exact ⟨Nat.zero_le _, by show (y 0).val < 0 + 128; omega⟩
    · exact ⟨Nat.zero_le _, by show (y 1).val < 0 + 512; omega⟩
  · refine ⟨_, List.mem_cons_self, (Rect.mem_set_unit (inb := inb_S192x512_S64x512_128_0)).mpr fun a => ?_⟩
    fin_cases a
    · exact ⟨by show 128 ≤ (y 0).val; omega, by show (y 0).val < 128 + 64; omega⟩
    · exact ⟨Nat.zero_le _, by show (y 1).val < 0 + 512; omega⟩

/-- A block of two pieces, each given by one function of the block's index. -/
theorem canon2 {e : EltTy} (G : S192x512.Idx → Elt Ideal e) (u : Vec Ideal S64x512 e) (v : Vec Ideal S128x512 e)
    (hu : ∀ (r : Fin 64) (q : Fin 512), u (ix2 r q) = G (ix2 ⟨128 + r.val, by omega⟩ q))
    (hv : ∀ (r : Fin 128) (q : Fin 512), v (ix2 r q) = G (ix2 ⟨r.val, by omega⟩ q)) :
    View.canon [⟨Rect.unit (s := S192x512) ![128, 0] S64x512.size inb_S192x512_S64x512_128_0, u⟩,
      ⟨Rect.unit (s := S192x512) ![0, 0] S128x512.size inb_S192x512_S128x512_0_0, v⟩] = G := by
  funext y
  refine View.canon_apply_of_pieces (Val := Elt Ideal) (S := S192x512) (e := e) G _ (fun p hp => ?_) y (cover2 u v y)
  simp only [List.mem_cons, List.not_mem_nil, or_false] at hp
  rcases hp with rfl | rfl
  · intro z
    refine ((congrArg u (eq_ix2 (n0 := 64) (n1 := 512) z)).trans (hu (z 0) (z 1))).trans (congrArg G (ext2 ?_ ?_))
    · show 128 + (z 0).val = 128 + 1 * (z 0).val; omega
    · show (z 1).val = 0 + 1 * (z 1).val; omega
  · intro z
    refine ((congrArg v (eq_ix2 (n0 := 128) (n1 := 512) z)).trans (hv (z 0) (z 1))).trans (congrArg G (ext2 ?_ ?_))
    · show (z 0).val = 0 + 1 * (z 0).val; omega
    · show (z 1).val = 0 + 1 * (z 1).val; omega

theorem low_apply (a : Vec Ideal S1024x128 .f32) (r : Fin 128) (q : Fin 512) :
    even (F := Ideal) a (ix2 q r) = aggFn a (ix2 ⟨r.val, by omega⟩ q) :=
  (even_apply a q r).trans (congrArg a (ext2
    (by show 2 * q.val = 2 * q.val + r.val / 128; omega) (by show r.val = r.val % 128; omega)))

theorem high_apply (a : Vec Ideal S1024x128 .f32) (r : Fin 64) (q : Fin 512) (h : r.val < 128) :
    odd (F := Ideal) a (ix2 q ⟨r.val, h⟩) = aggFn a (ix2 ⟨128 + r.val, by omega⟩ q) :=
  (odd_apply a q _).trans (congrArg a (ext2
    (by show 1 + 2 * q.val = 2 * q.val + (128 + r.val) / 128; omega) (by show r.val = (128 + r.val) % 128; omega)))

/-- The agg block, entry by entry. -/
theorem aggBlock_eq (a : Vec Ideal S1024x128 .f32) : aggBlock (F := Ideal) a = aggFn a := by
  refine canon2 (e := .f32) (aggFn a) _ _ (fun r q => ?_) (fun r q => ?_)
  · pointwise [k0_pay2]
    exact high_apply a r q _
  · pointwise [k0_pay1]
    exact low_apply a r q

/-- The out block, entry by entry. -/
theorem outBlock_eq (v : FVec Ideal S192x512 .f32) (a : Vec Ideal S1024x128 .f32) :
    outBlock (F := Ideal) v a = fun y => aggFn a y + v y := by
  refine canon2 (e := .bf16) (fun y => aggFn a y + v y) _ _ (fun r q => ?_) (fun r q => ?_)
  · pointwise [k0_pay4, k0_pay2]
    rw [high_apply]
  · pointwise [k0_pay3, k0_pay1]
    rw [low_apply]

/-- The root block, entry by entry. -/
theorem root_apply (w : Vec Ideal S192x1024 .fp8e4m3) (x : Vec Ideal S512x1024 .fp8e4m3) (xs : Vec Ideal S1x1x512 .f32) (ws b : Vec Ideal S192x1 .f32)
    (r : Fin 192) (q : Fin 512) :
    k0_pay29 (F := Ideal) w x xs ws b (ix2 r q) = (∑ d : Fin 1024, w (ix2 r d) * x (ix2 q d)) * xs (ix3 0 0 q) * ws (ix2 r 0) + b (ix2 r 0) := by
  pointwise [k0_pay29]

end Values

end Cert.FinishProof

end
-- ==== Proof.FinishArray.lean ====
/- The finish kernel's two output arrays after the run, over the extended reals, as functions of the arguments. -/
module

public import proofs.«01_k».proof.Proof.FinishBlock
public import Idealize.ShloMosaic.Lib.StableHlo.Run

@[expose] public section

set_option maxRecDepth 16384

noncomputable section

namespace Cert.FinishProof

open Cert.FinishIdeal Cert.FinishIdeal.Gen
open Idealize.ShloMosaic Idealize.ShloMosaic.TcCoe Idealize.SL.Sem

/-! ## Where the blocks lie -/

/-- While graph `k` is worked on, part `k`'s window moves over its eight blocks. -/
def PartPlaces : Fin 8 → Fin cfg0.N → Prop
  | ⟨0, _⟩ => fun t => t.val / 8 = 0 → win0_5.index t (0 : Fin 2) = t.val % 8 ∧ win0_5.index t (1 : Fin 2) = 0
  | ⟨1, _⟩ => fun t => t.val / 8 = 1 → win0_6.index t (0 : Fin 2) = t.val % 8 ∧ win0_6.index t (1 : Fin 2) = 0
  | ⟨2, _⟩ => fun t => t.val / 8 = 2 → win0_7.index t (0 : Fin 2) = t.val % 8 ∧ win0_7.index t (1 : Fin 2) = 0
  | ⟨3, _⟩ => fun t => t.val / 8 = 3 → win0_8.index t (0 : Fin 2) = t.val % 8 ∧ win0_8.index t (1 : Fin 2) = 0
  | ⟨4, _⟩ => fun t => t.val / 8 = 4 → win0_9.index t (0 : Fin 2) = t.val % 8 ∧ win0_9.index t (1 : Fin 2) = 0
  | ⟨5, _⟩ => fun t => t.val / 8 = 5 → win0_10.index t (0 : Fin 2) = t.val % 8 ∧ win0_10.index t (1 : Fin 2) = 0
  | ⟨6, _⟩ => fun t => t.val / 8 = 6 → win0_11.index t (0 : Fin 2) = t.val % 8 ∧ win0_11.index t (1 : Fin 2) = 0
  | ⟨7, _⟩ => fun t => t.val / 8 = 7 → win0_12.index t (0 : Fin 2) = t.val % 8 ∧ win0_12.index t (1 : Fin 2) = 0

instance : (k : Fin 8) → (t : Fin cfg0.N) → Decidable (PartPlaces k t)
  | ⟨0, _⟩, _ | ⟨1, _⟩, _ | ⟨2, _⟩, _ | ⟨3, _⟩, _ | ⟨4, _⟩, _ | ⟨5, _⟩, _ | ⟨6, _⟩, _ | ⟨7, _⟩, _ => by unfold PartPlaces; infer_instance

theorem part_places : (k : Fin 8) → ∀ t : Fin cfg0.N, PartPlaces k t
  | ⟨0, _⟩ | ⟨1, _⟩ | ⟨2, _⟩ | ⟨3, _⟩ | ⟨4, _⟩ | ⟨5, _⟩ | ⟨6, _⟩ | ⟨7, _⟩ => by decide +kernel +revert

/-- The other windows. -/
theorem places : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_13.index t (0 : Fin 2) = 0 ∧ win0_13.index t (1 : Fin 2) = t.val)
    ∧ (win0_14.index t (0 : Fin 2) = 0 ∧ win0_14.index t (1 : Fin 2) = t.val) := by
  decide +kernel

variable (m : (ℓ : Loc nD τ sig) → Buf (Elt Ideal) ℓ) (c : Dev nD)

/-! ## What the region finds in its arrays -/

theorem weights (r : Fin 192) (d : Fin 1024) : (V m c main_v0 : FVec Ideal S192x1024 .fp8e4m3) (ix2 r d)
    = (m ((c : Thread nD τ).loc main_arg2) : FVec Ideal S1024x192 .fp8e4m3) (ix2 d r) := by
  have h : V m c main_v0 = transpose S192x1024 [1, 0] (m ((c : Thread nD τ).loc main_arg2)) transposes_S1024x192_S192x1024_1_0 := by
    show StableHlo.after hostOps0 _ (Proc.devRef .tc main_v0) = _
    unfold_abbrev_sides
    after_results
  rw [h]
  pointwise []

theorem scales (r : Fin 192) (z : Fin 1) : (V m c main_v1 : FVec Ideal S192x1 .f32) (ix2 r z)
    = (m ((c : Thread nD τ).loc main_arg3) : FVec Ideal S192 .f32) (ix1 r) := by
  have h : V m c main_v1 = broadcastInDim S192x1 ![0] bcast_S192_S192x1_0 (m ((c : Thread nD τ).loc main_arg3)) := by
    show StableHlo.after hostOps0 _ (Proc.devRef .tc main_v1) = _
    unfold_abbrev_sides
    after_results
  rw [h]
  pointwise []

theorem biases (r : Fin 192) (z : Fin 1) : (V m c main_v2 : FVec Ideal S192x1 .f32) (ix2 r z)
    = (m ((c : Thread nD τ).loc main_arg4) : FVec Ideal S192 .f32) (ix1 r) := by
  have h : V m c main_v2 = broadcastInDim S192x1 ![0] bcast_S192_S192x1_0 (m ((c : Thread nD τ).loc main_arg4)) := by
    show StableHlo.after hostOps0 _ (Proc.devRef .tc main_v2) = _
    unfold_abbrev_sides
    after_results
  rw [h]
  pointwise []

theorem nodeScales (t : Fin 64) (z : Fin 1) (q : Fin 512) : (V m c main_v3 : FVec Ideal S64x1x512 .f32) (ix3 t z q)
    = (m ((c : Thread nD τ).loc main_arg1) : FVec Ideal S32768 .f32) (ix1 ⟨t.val * 512 + q.val, by omega⟩) := by
  have h : (V m c main_v3 : FVec Ideal S64x1x512 .f32) = shapeCast S64x1x512 (m ((c : Thread nD τ).loc main_arg1) : FVec Ideal S32768 .f32) shapeCasts_S32768_S64x1x512 := by
    show StableHlo.after hostOps0 _ (Proc.devRef .tc main_v3) = _
    unfold_abbrev_sides
    after_results
    rfl
  rw [h]
  pointwise []

/-- The eight parts of agg. -/
def parts : Fin 8 → FVec Ideal S8192x128 .f32
  | ⟨0, _⟩ => m ((c : Thread nD τ).loc main_arg5)
  | ⟨1, _⟩ => m ((c : Thread nD τ).loc main_arg6)
  | ⟨2, _⟩ => m ((c : Thread nD τ).loc main_arg7)
  | ⟨3, _⟩ => m ((c : Thread nD τ).loc main_arg8)
  | ⟨4, _⟩ => m ((c : Thread nD τ).loc main_arg9)
  | ⟨5, _⟩ => m ((c : Thread nD τ).loc main_arg10)
  | ⟨6, _⟩ => m ((c : Thread nD τ).loc main_arg11)
  | ⟨7, _⟩ => m ((c : Thread nD τ).loc main_arg12)

/-! ## One block of each output -/

/-- A block of a part, in the part. -/
theorem part_apply (t : Fin cfg0.N) (k : Fin 8) (h : t.val / 8 = k.val) (r : Fin 1024) (l : Fin 128) :
    part m c t k (ix2 r l) = parts m c k (ix2 ⟨1024 * (t.val % 8) + r.val, by omega⟩ l) := by
  have p := part_places k t
  match k, h with
  | ⟨0, _⟩, h | ⟨1, _⟩, h | ⟨2, _⟩, h | ⟨3, _⟩, h | ⟨4, _⟩, h | ⟨5, _⟩, h | ⟨6, _⟩, h | ⟨7, _⟩, h =>
    dsimp only [PartPlaces] at p h
    obtain ⟨a0, a1⟩ := p h
    dsimp only [part, parts]
    first
    | rw [← V_main_arg5 m c]; refine congrArg (V m c main_arg5) (ext2 (n0 := 8192) (n1 := 128) ?_ ?_)
    | rw [← V_main_arg6 m c]; refine congrArg (V m c main_arg6) (ext2 (n0 := 8192) (n1 := 128) ?_ ?_)
    | rw [← V_main_arg7 m c]; refine congrArg (V m c main_arg7) (ext2 (n0 := 8192) (n1 := 128) ?_ ?_)
    | rw [← V_main_arg8 m c]; refine congrArg (V m c main_arg8) (ext2 (n0 := 8192) (n1 := 128) ?_ ?_)
    | rw [← V_main_arg9 m c]; refine congrArg (V m c main_arg9) (ext2 (n0 := 8192) (n1 := 128) ?_ ?_)
    | rw [← V_main_arg10 m c]; refine congrArg (V m c main_arg10) (ext2 (n0 := 8192) (n1 := 128) ?_ ?_)
    | rw [← V_main_arg11 m c]; refine congrArg (V m c main_arg11) (ext2 (n0 := 8192) (n1 := 128) ?_ ?_)
    | rw [← V_main_arg12 m c]; refine congrArg (V m c main_arg12) (ext2 (n0 := 8192) (n1 := 128) ?_ ?_)
    · refine Eq.trans (congrArg (fun v => v * 1024 + 1 * r.val) a0) ?_; simp; omega
    · refine Eq.trans (congrArg (fun v => v * 128 + 1 * l.val) a1) ?_; simp

/-- The root block, in the whole root term. -/
theorem root_apply' (t : Fin cfg0.N) (r : Fin 192) (q : Fin 512) (y : S192x32768.Idx) (h0 : (y 0).val = r.val) (h1 : (y 1).val = 512 * t.val + q.val) :
    root m c t (ix2 r q) = rootAt (m ((c : Thread nD τ).loc main_arg0)) (m ((c : Thread nD τ).loc main_arg1))
      (m ((c : Thread nD τ).loc main_arg2)) (m ((c : Thread nD τ).loc main_arg3)) (m ((c : Thread nD τ).loc main_arg4)) y := by
  obtain ⟨⟨a0, a1⟩, ⟨b0, b1⟩, ⟨d0, d1⟩, ⟨e0, e1⟩, ⟨f0, f1, f2⟩, -, -⟩ := places t
  have ht : t.val < 64 := t.isLt
  have hw : ∀ d : Fin 1024, (iblk m c 1 t : FVec Ideal S192x1024 .fp8e4m3) (ix2 r d) = (m ((c : Thread nD τ).loc main_arg2) : FVec Ideal S1024x192 .fp8e4m3) (ix2 d (y 0)) := fun d => by
    refine Eq.trans (congrArg (V m c main_v0) (ext2 (n0 := 192) (n1 := 1024) (j := ix2 (y 0) d) ?_ ?_)) (weights m c (y 0) d)
    · refine Eq.trans (congrArg (fun v => v * 192 + 1 * r.val) b0) ?_; simp; omega
    · refine Eq.trans (congrArg (fun v => v * 1024 + 1 * d.val) b1) ?_; simp
  have hx : ∀ d : Fin 1024, (iblk m c 0 t : FVec Ideal S512x1024 .fp8e4m3) (ix2 q d) = (m ((c : Thread nD τ).loc main_arg0) : FVec Ideal S32768x1024 .fp8e4m3) (ix2 (y 1) d) := fun d => by
    rw [← V_main_arg0 m c]
    refine congrArg (V m c main_arg0) (ext2 (n0 := 32768) (n1 := 1024) ?_ ?_)
    · refine Eq.trans (congrArg (fun v => v * 512 + 1 * q.val) a0) ?_; simp; omega
    · refine Eq.trans (congrArg (fun v => v * 1024 + 1 * d.val) a1) ?_; simp
  have hxs : (iblk m c 4 t : FVec Ideal S1x1x512 .f32) (ix3 0 0 q) = (m ((c : Thread nD τ).loc main_arg1) : FVec Ideal S32768 .f32) (ix1 (y 1)) := by
    refine Eq.trans (congrArg (V m c main_v3) (ext3 (n0 := 64) (n1 := 1) (n2 := 512) (j := ix3 ⟨t.val, ht⟩ 0 q) ?_ ?_ ?_)) ((nodeScales m c ⟨t.val, ht⟩ 0 q).trans
      (congrArg (fun i => (m ((c : Thread nD τ).loc main_arg1) : FVec Ideal S32768 .f32) (ix1 i)) (Fin.ext ?_)))
    · refine Eq.trans (congrArg (fun v => v * 1 + 1 * 0) f0) ?_; simp
    · refine Eq.trans (congrArg (fun v => v * 1 + 1 * 0) f1) ?_; simp
    · refine Eq.trans (congrArg (fun v => v * 512 + 1 * q.val) f2) ?_; simp
    · show t.val * 512 + q.val = (y 1).val; omega
  have hws : (iblk m c 2 t : FVec Ideal S192x1 .f32) (ix2 r 0) = (m ((c : Thread nD τ).loc main_arg3) : FVec Ideal S192 .f32) (ix1 (y 0)) := by
    refine Eq.trans (congrArg (V m c main_v1) (ext2 (n0 := 192) (n1 := 1) (j := ix2 (y 0) 0) ?_ ?_)) (scales m c (y 0) 0)
    · refine Eq.trans (congrArg (fun v => v * 192 + 1 * r.val) d0) ?_; simp; omega
    · refine Eq.trans (congrArg (fun v => v * 1 + 1 * 0) d1) ?_; simp
  have hb : (iblk m c 3 t : FVec Ideal S192x1 .f32) (ix2 r 0) = (m ((c : Thread nD τ).loc main_arg4) : FVec Ideal S192 .f32) (ix1 (y 0)) := by
    refine Eq.trans (congrArg (V m c main_v2) (ext2 (n0 := 192) (n1 := 1) (j := ix2 (y 0) 0) ?_ ?_)) (biases m c (y 0) 0)
    · refine Eq.trans (congrArg (fun v => v * 192 + 1 * r.val) e0) ?_; simp; omega
    · refine Eq.trans (congrArg (fun v => v * 1 + 1 * 0) e1) ?_; simp
  unfold root rootAt
  rw [root_apply, hxs, hws, hb]
  congr 3
  exact Finset.sum_congr rfl fun d _ => by rw [hw, hx]

/-- The agg block, in the whole agg. -/
theorem agg_apply (t : Fin cfg0.N) (k : Fin 8) (hk : t.val / 8 = k.val) (j : S192x512.Idx) (y : S192x32768.Idx)
    (h0 : (y 0).val = (j 0).val) (h1 : (y 1).val = 512 * t.val + (j 1).val) :
    aggFn (part m c t k) j = aggAt (parts m c) y := by
  have hj0 : (j 0).val < 192 := (j 0).isLt
  have hj1 : (j 1).val < 512 := (j 1).isLt
  have hy : (y 1).val < 32768 := (y 1).isLt
  unfold aggFn aggAt
  refine (part_apply m c t k hk _ _).trans ?_
  have e : k = ⟨(y 1).val / 4096, by omega⟩ := Fin.ext (by show k.val = (y 1).val / 4096; omega)
  refine congr (congrArg (parts m c) e) (ext2 ?_ ?_)
  · show 1024 * (t.val % 8) + (2 * (j 1).val + (j 0).val / 128) = 2 * ((y 1).val % 4096) + (y 0).val / 128; omega
  · show (j 0).val % 128 = (y 0).val % 128; omega

/-! ## The two arrays -/

theorem agg_arr : (dats m 0 c).arrAt 14 cfg0.N = aggAt (parts m c) := by
  refine Pipeline.Dat.arrAt_eq_of_covers (dats m 0 c) 14 (aggAt (parts m c)) (by decide +kernel) fun t _ j => ?_
  have ht : t.val < 64 := t.isLt
  obtain ⟨-, -, -, -, -, -, e0, e1⟩ := places t
  rw [after0_14, leaves m c t ⟨t.val / 8, by omega⟩ rfl]
  dsimp only
  rw [aggBlock_eq]
  refine agg_apply m c t _ rfl j _ ?_ ?_
  · refine Eq.trans (congrArg (fun v => v * 192 + 1 * (j 0).val) e0) ?_; simp
  · refine Eq.trans (congrArg (fun v => v * 512 + 1 * (j 1).val) e1) ?_; simp; omega

theorem out_arr : (dats m 0 c).arrAt 13 cfg0.N = fun y => aggAt (parts m c) y
    + rootAt (m ((c : Thread nD τ).loc main_arg0)) (m ((c : Thread nD τ).loc main_arg1))
      (m ((c : Thread nD τ).loc main_arg2)) (m ((c : Thread nD τ).loc main_arg3)) (m ((c : Thread nD τ).loc main_arg4)) y := by
  refine Pipeline.Dat.arrAt_eq_of_covers (dats m 0 c) 13 _ (by decide +kernel) fun t _ j => ?_
  have ht : t.val < 64 := t.isLt
  obtain ⟨-, -, -, -, -, ⟨e0, e1⟩, -⟩ := places t
  rw [after0_13, leaves m c t ⟨t.val / 8, by omega⟩ rfl]
  dsimp only
  rw [outBlock_eq]
  have g0 : ((((cfg0.win 13).blk t).view.emb j : S192x32768.Idx) 0).val = ((j : S192x512.Idx) 0).val := by
    refine Eq.trans (congrArg (fun v => v * 192 + 1 * ((j : S192x512.Idx) 0).val) e0) ?_; simp
  have g1 : ((((cfg0.win 13).blk t).view.emb j : S192x32768.Idx) 1).val = 512 * t.val + ((j : S192x512.Idx) 1).val := by
    refine Eq.trans (congrArg (fun v => v * 512 + 1 * ((j : S192x512.Idx) 1).val) e1) ?_; simp; omega
  exact congrArg₂ (· + ·) (agg_apply m c t _ rfl j _ g0 g1)
    ((congrArg (root m c t) (eq_ix2 (n0 := 192) (n1 := 512) j)).trans (root_apply' m c t _ _ _ g0 g1))

end Cert.FinishProof

end
-- ==== Proof.FinishReference.lean ====
/- The finish reference's two results after the run, over the extended reals: the same two functions of the arguments. -/
module

public import proofs.«01_k».proof.Proof.Gen.FinishReferenceIdeal.Value
public import proofs.«01_k».proof.Proof.FinishSpec
public import Idealize.ShloMosaic.Lib.Pipeline.ValueKit.Geometry
public import Idealize.ShloMosaic.Lib.Pipeline.ValueKit
public import Idealize.ShloMosaic.Lib.StableHlo.Run

@[expose] public section

set_option maxRecDepth 16384

noncomputable section

namespace Cert.FinishReference

open Cert.FinishReferenceIdeal Cert.FinishReferenceIdeal.Gen
open Idealize.ShloMosaic Idealize.ShloMosaic.TcCoe Idealize.SL.Sem
open Cert.FinishProof (aggAt rootAt ext2 ext3)

variable (m : (ℓ : Loc nD τ sig) → Buf (Elt Ideal) ℓ) (c : Dev nD)

/-- The eight parts of agg. -/
def parts : Fin 8 → FVec Ideal S8192x128 .f32
  | ⟨0, _⟩ => m ((c : Thread nD τ).loc main_arg5)
  | ⟨1, _⟩ => m ((c : Thread nD τ).loc main_arg6)
  | ⟨2, _⟩ => m ((c : Thread nD τ).loc main_arg7)
  | ⟨3, _⟩ => m ((c : Thread nD τ).loc main_arg8)
  | ⟨4, _⟩ => m ((c : Thread nD τ).loc main_arg9)
  | ⟨5, _⟩ => m ((c : Thread nD τ).loc main_arg10)
  | ⟨6, _⟩ => m ((c : Thread nD τ).loc main_arg11)
  | ⟨7, _⟩ => m ((c : Thread nD τ).loc main_arg12)

/-- The out result of the body, entry by entry. -/
theorem pay2_apply (x : FVec Ideal S32768x1024 .fp8e4m3) (w : FVec Ideal S1024x192 .fp8e4m3) (xs : FVec Ideal S32768x1 .f32) (ws : FVec Ideal S1x192 .f32)
    (a : FVec Ideal S32768x192 .f32) (b : FVec Ideal S1x192 .f32) (r : Fin 192) (n : Fin 32768) :
    k0_pay2 (F := Ideal) x w xs ws a b (ix2 r n)
      = a (ix2 n r) + (∑ d : Fin 1024, x (ix2 n d) * w (ix2 d r)) * xs (ix2 n 0) * ws (ix2 0 r) + b (ix2 0 r) := by
  pointwise [k0_pay2, k0_pay1]

theorem pay3_apply (a : FVec Ideal S32768x192 .f32) (r : Fin 192) (n : Fin 32768) : k0_pay3 (F := Ideal) a (ix2 r n) = a (ix2 n r) := by
  pointwise [k0_pay3, k0_pay1]

/-! ## What the region finds in its arrays -/

theorem scales (z : Fin 1) (r : Fin 192) : (V m c main_v4 : FVec Ideal S1x192 .f32) (ix2 z r)
    = (m ((c : Thread nD τ).loc main_arg3) : FVec Ideal S192 .f32) (ix1 r) := by
  have h : V m c main_v4 = broadcastInDim S1x192 ![1] bcast_S192_S1x192_1 (m ((c : Thread nD τ).loc main_arg3)) := by
    show StableHlo.after hostOps0 _ (Proc.devRef .tc main_v4) = _
    unfold_abbrev_sides
    after_results
  rw [h]
  pointwise []

theorem biases (z : Fin 1) (r : Fin 192) : (V m c main_v5 : FVec Ideal S1x192 .f32) (ix2 z r)
    = (m ((c : Thread nD τ).loc main_arg4) : FVec Ideal S192 .f32) (ix1 r) := by
  have h : V m c main_v5 = broadcastInDim S1x192 ![1] bcast_S192_S1x192_1 (m ((c : Thread nD τ).loc main_arg4)) := by
    show StableHlo.after hostOps0 _ (Proc.devRef .tc main_v5) = _
    unfold_abbrev_sides
    after_results
  rw [h]
  pointwise []

theorem nodeScales (n : Fin 32768) (z : Fin 1) : (V m c main_v3 : FVec Ideal S32768x1 .f32) (ix2 n z)
    = (m ((c : Thread nD τ).loc main_arg1) : FVec Ideal S32768 .f32) (ix1 n) := by
  have h : V m c main_v3 = broadcastInDim S32768x1 ![0] bcast_S32768_S32768x1_0 (m ((c : Thread nD τ).loc main_arg1)) := by
    show StableHlo.after hostOps0 _ (Proc.devRef .tc main_v3) = _
    unfold_abbrev_sides
    after_results
  rw [h]
  pointwise []

/-- The parts one below the other. -/
def joined : FVec Ideal S65536x128 .f32 :=
  concatenate S65536x128 0 [⟨S8192x128, parts m c 0⟩, ⟨S8192x128, parts m c 1⟩, ⟨S8192x128, parts m c 2⟩, ⟨S8192x128, parts m c 3⟩,
    ⟨S8192x128, parts m c 4⟩, ⟨S8192x128, parts m c 5⟩, ⟨S8192x128, parts m c 6⟩, ⟨S8192x128, parts m c 7⟩]
    concatenates_S8192x128_S8192x128_S8192x128_S8192x128_S8192x128_S8192x128_S8192x128_S8192x128_S65536x128_d0

theorem agg_host : (V m c main_v2 : FVec Ideal S32768x192 .f32) = extractStridedSlice S32768x192 ![0, 0]
    (shapeCast S32768x256 (joined m c) shapeCasts_S65536x128_S32768x256) slices_S32768x256_S32768x192_0_0 := by
  show StableHlo.after hostOps0 _ (Proc.devRef .tc main_v2) = _
  unfold_abbrev_sides
  after_results
  rfl

/-- Row `i` of the joined parts lies in part `i / 8192`. -/
theorem joined_apply (j : S65536x128.Idx) (k : Fin 8) (i : S8192x128.Idx) (h : (j 0).val = 8192 * k.val + (i 0).val)
    (h1 : (i 1).val = (j 1).val) : joined m c j = parts m c k i := by
  have hi : (i 0).val < 8192 := (i 0).isLt
  have e : ([⟨S8192x128, parts m c 0⟩, ⟨S8192x128, parts m c 1⟩, ⟨S8192x128, parts m c 2⟩, ⟨S8192x128, parts m c 3⟩,
      ⟨S8192x128, parts m c 4⟩, ⟨S8192x128, parts m c 5⟩, ⟨S8192x128, parts m c 6⟩, ⟨S8192x128, parts m c 7⟩] :
        List ((s : Shape) × FVec Ideal s .f32)) = List.ofFn fun k : Fin 8 => ⟨S8192x128, parts m c k⟩ := by
    simp only [List.ofFn_succ, List.ofFn_zero]
    rfl
  have g := concatenates_S8192x128_S8192x128_S8192x128_S8192x128_S8192x128_S8192x128_S8192x128_S8192x128_S65536x128_d0
  refine (congrFun (StableHlo.concatenate_congr S65536x128 0 e g (by rw [← e]; exact g)) j).trans ?_
  refine concatenate_ofFn_apply (t := S65536x128) 0 (parts m c) _ rfl 8192 rfl j k (by omega) i ?_ ?_
  · show (i 0).val = (j 0).val % 8192
    omega
  · intro b hb
    match b, hb with
    | ⟨0, _⟩, hb => exact absurd rfl hb
    | ⟨1, _⟩, _ => exact h1

/-- Word `r` of node `n`. -/
theorem agg_apply (n : Fin 32768) (r : Fin 192) : (V m c main_v2 : FVec Ideal S32768x192 .f32) (ix2 n r) = aggAt (parts m c) (ix2 r n) := by
  rw [agg_host]
  pointwise []
  unfold aggAt
  refine joined_apply m c _ _ _ ?_ rfl
  show n.val * 2 + r.val / 128 = 8192 * (n.val / 4096) + (2 * (n.val % 4096) + r.val / 128)
  omega

/-! ## The blocks: every window is its whole array -/

theorem places : ∀ t : Fin cfg0.N, (win0_0.index t (0 : Fin 2) = 0 ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) := by
  decide +kernel

/-- A place in a block of index zero is the same place of the array. -/
theorem at_zero {v k b : ℕ} (h : v = 0) : v * k + 1 * b = b := by rw [h]; omega

theorem block0 (t : Fin cfg0.N) : iblk m c 0 t = (V m c main_arg0 : FVec Ideal S32768x1024 .fp8e4m3) :=
  funext fun _ => congrArg (V m c main_arg0 : FVec Ideal S32768x1024 .fp8e4m3)
    (ext2 (n0 := 32768) (n1 := 1024) (at_zero (places t).1.1) (at_zero (places t).1.2))

theorem block1 (t : Fin cfg0.N) : iblk m c 1 t = (V m c main_v3 : FVec Ideal S32768x1 .f32) :=
  funext fun _ => congrArg (V m c main_v3 : FVec Ideal S32768x1 .f32)
    (ext2 (n0 := 32768) (n1 := 1) (at_zero (places t).2.1.1) (at_zero (places t).2.1.2))

theorem block2 (t : Fin cfg0.N) : iblk m c 2 t = (V m c main_arg2 : FVec Ideal S1024x192 .fp8e4m3) :=
  funext fun _ => congrArg (V m c main_arg2 : FVec Ideal S1024x192 .fp8e4m3)
    (ext2 (n0 := 1024) (n1 := 192) (at_zero (places t).2.2.1.1) (at_zero (places t).2.2.1.2))

theorem block3 (t : Fin cfg0.N) : iblk m c 3 t = (V m c main_v4 : FVec Ideal S1x192 .f32) :=
  funext fun _ => congrArg (V m c main_v4 : FVec Ideal S1x192 .f32)
    (ext2 (n0 := 1) (n1 := 192) (at_zero (places t).2.2.2.1.1) (at_zero (places t).2.2.2.1.2))

theorem block4 (t : Fin cfg0.N) : iblk m c 4 t = (V m c main_v5 : FVec Ideal S1x192 .f32) :=
  funext fun _ => congrArg (V m c main_v5 : FVec Ideal S1x192 .f32)
    (ext2 (n0 := 1) (n1 := 192) (at_zero (places t).2.2.2.2.1.1) (at_zero (places t).2.2.2.2.1.2))

theorem block5 (t : Fin cfg0.N) : iblk m c 5 t = (V m c main_v2 : FVec Ideal S32768x192 .f32) :=
  funext fun _ => congrArg (V m c main_v2 : FVec Ideal S32768x192 .f32)
    (ext2 (n0 := 32768) (n1 := 192) (at_zero (places t).2.2.2.2.2.1.1) (at_zero (places t).2.2.2.2.2.1.2))

/-- The two output blocks. -/
theorem outs (x : FVec Ideal S32768x1024 .fp8e4m3) (xs : FVec Ideal S32768x1 .f32) (w : FVec Ideal S1024x192 .fp8e4m3) (ws b : FVec Ideal S1x192 .f32)
    (a : FVec Ideal S32768x192 .f32) :
    out0_6 (F := Ideal) x xs w ws b a = k0_pay2 (F := Ideal) x w xs ws a b ∧ out0_7 (F := Ideal) x xs w ws b a = k0_pay3 (F := Ideal) a := by
  constructor <;> frame_out

/-! ## The two arrays -/

theorem agg_value (y : S192x32768.Idx) : k0_pay3 (F := Ideal) (V m c main_v2) y = aggAt (parts m c) y := by
  obtain ⟨r, n, rfl⟩ : ∃ (r : Fin 192) (n : Fin 32768), y = ix2 r n := ⟨y 0, y 1, eq_ix2 (n0 := 192) (n1 := 32768) y⟩
  exact (pay3_apply _ r n).trans (agg_apply m c n r)

theorem out_value (y : S192x32768.Idx) :
    k0_pay2 (F := Ideal) (V m c main_arg0) (V m c main_arg2) (V m c main_v3) (V m c main_v4) (V m c main_v2) (V m c main_v5) y
      = aggAt (parts m c) y + rootAt (m ((c : Thread nD τ).loc main_arg0)) (m ((c : Thread nD τ).loc main_arg1))
      (m ((c : Thread nD τ).loc main_arg2)) (m ((c : Thread nD τ).loc main_arg3)) (m ((c : Thread nD τ).loc main_arg4)) y := by
  obtain ⟨r, n, rfl⟩ : ∃ (r : Fin 192) (n : Fin 32768), y = ix2 r n := ⟨y 0, y 1, eq_ix2 (n0 := 192) (n1 := 32768) y⟩
  refine (pay2_apply _ _ _ _ _ _ r n).trans ?_
  rw [agg_apply m c n r, nodeScales m c n 0, scales m c 0 r, biases m c 0 r, add_assoc, V_main_arg0 m c, V_main_arg2 m c]
  dsimp only [rootAt]
  congr 4
  exact Finset.sum_congr rfl fun d _ => mul_comm _ _

theorem agg_arr : (dats m 0 c).arrAt 7 cfg0.N = aggAt (parts m c) := by
  refine Pipeline.Dat.arrAt_eq_of_covers (dats m 0 c) 7 (aggAt (parts m c)) (by decide +kernel) fun t _ j => ?_
  obtain ⟨-, -, -, -, -, -, -, e0, e1⟩ := places t
  rw [after0_7, (outs _ _ _ _ _ _).2, block5]
  have g : ((cfg0.win 7).blk t).view.emb j = (j : S192x32768.Idx) := ext2 (n0 := 192) (n1 := 32768) (at_zero e0) (at_zero e1)
  rw [g]
  exact agg_value m c j

theorem out_arr : (dats m 0 c).arrAt 6 cfg0.N = fun y => aggAt (parts m c) y
    + rootAt (m ((c : Thread nD τ).loc main_arg0)) (m ((c : Thread nD τ).loc main_arg1))
      (m ((c : Thread nD τ).loc main_arg2)) (m ((c : Thread nD τ).loc main_arg3)) (m ((c : Thread nD τ).loc main_arg4)) y := by
  refine Pipeline.Dat.arrAt_eq_of_covers (dats m 0 c) 6 _ (by decide +kernel) fun t _ j => ?_
  obtain ⟨-, -, -, -, -, -, ⟨e0, e1⟩, -⟩ := places t
  rw [after0_6, (outs _ _ _ _ _ _).1, block0, block1, block2, block3, block4, block5]
  have g : ((cfg0.win 6).blk t).view.emb j = (j : S192x32768.Idx) := ext2 (n0 := 192) (n1 := 32768) (at_zero e0) (at_zero e1)
  rw [g]
  exact out_value m c j

end Cert.FinishReference

end
-- ==== Proof.FinishAlgebra.lean ====
/- The value claim of the finish kernel: its idealization and the idealized reference leave the same two results. -/
module

public import proofs.«01_k».proof.Defs
public import proofs.«01_k».proof.Proof.FinishArray
public import proofs.«01_k».proof.Proof.FinishReference

@[expose] public section

set_option maxRecDepth 16384

noncomputable section

namespace Cert.FinishProof

open Idealize.ShloMosaic Idealize.ShloMosaic.TcCoe Idealize.SL.Sem

attribute [local instance] Cert.FinishIdeal.Gen.facts Cert.FinishReferenceIdeal.Gen.facts

/-- The value claim. -/
theorem algebraic : Cert.algebraic_FinishIdeal_FinishReferenceIdeal := by
  intro m g m' g' _ hargs
  refine ⟨_, _, Cert.FinishIdeal.Value.run_blocks m g, (θ_run _ _ _).mono (fun r h c => ?_) (Cert.FinishReferenceIdeal.Value.run_blocks m' g')⟩
  obtain ⟨h0, h1, a⟩ := h c
  obtain ⟨e0, e1, e2, e3, e4, e5, e6, e7, e8, e9, e10, e11, e12⟩ := hargs c
  have hp : Cert.FinishReference.parts m' c = parts m c := funext fun k =>
    match k with
    | ⟨0, _⟩ => e5
    | ⟨1, _⟩ => e6
    | ⟨2, _⟩ => e7
    | ⟨3, _⟩ => e8
    | ⟨4, _⟩ => e9
    | ⟨5, _⟩ => e10
    | ⟨6, _⟩ => e11
    | ⟨7, _⟩ => e12
  refine ⟨(h0.trans (Cert.FinishReference.out_arr m' c)).trans (Eq.trans ?_ (out_arr m c).symm),
    (h1.trans (Cert.FinishReference.agg_arr m' c)).trans (Eq.trans ?_ (agg_arr m c).symm), a⟩
  · rw [hp, e0, e1, e2, e3, e4]
  · rw [hp]

end Cert.FinishProof

end
-- ==== Proof.lean ====
/- The claims of Defs.lean. The two finish programs and the two references have generated frames; the frame of the
   products kernel is `ProductsProof.frame`, carried to its idealization by `ProductsProof.frame_ideal`, and its value is
   `ProductsProof.algebraic`; the value of the finish is `FinishProof.algebraic`. -/
module

public import proofs.«01_k».proof.Defs
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishReferenceIdeal
public import proofs.«01_k».proof.Proof.Gen.FinishReferenceIdeal.Skeleton
public import proofs.«01_k».proof.Proof.Gen.FinishReferenceIdeal.Launch
public import proofs.«01_k».proof.Proof.Gen.FinishReferenceIdeal.Points
public import proofs.«01_k».proof.Proof.Gen.FinishReferenceIdeal.Frame
public import proofs.«01_k».proof.Proof.Gen.ProductsReferenceIdeal
public import proofs.«01_k».proof.Proof.Gen.ProductsReferenceIdeal.Skeleton
public import proofs.«01_k».proof.Proof.Gen.ProductsReferenceIdeal.Launch
public import proofs.«01_k».proof.Proof.Gen.ProductsReferenceIdeal.Points
public import proofs.«01_k».proof.Proof.Gen.ProductsReferenceIdeal.Frame
public import proofs.«01_k».proof.Proof.Gen.FinishIdeal.Value
public import proofs.«01_k».proof.Proof.Gen.FinishReferenceIdeal.Value
public import proofs.«01_k».proof.Proof.Gen.ProductsReferenceIdeal.Value
public import proofs.«01_k».proof.Proof.Gen.Products
public import proofs.«01_k».proof.Proof.Gen.ProductsIdeal
public import proofs.«01_k».proof.Proof.ProductsRun
public import proofs.«01_k».proof.Proof.ProductsIdealRun
public import proofs.«01_k».proof.Proof.ProductsAlgebra
public import proofs.«01_k».proof.Proof.FinishAlgebra
public import Idealize.ShloMosaic.Adequacy
public import Idealize.ShloMosaic.Init

@[expose] public section

noncomputable section

namespace Cert.Proof

open Idealize.ShloMosaic Idealize.SL.Sem

theorem claim : Cert.Claim :=
  ⟨Cert.Finish.Gen.facts, Cert.FinishIdeal.Gen.facts, Cert.FinishReferenceIdeal.Gen.facts, Cert.Products.Gen.facts,
    Cert.ProductsIdeal.Gen.facts, Cert.ProductsReferenceIdeal.Gen.facts,
    fun m ρ _ => Cert.Finish.Gen.frame m ρ, fun m ρ _ => Cert.FinishIdeal.Gen.frame m ρ,
    fun m ρ _ => Cert.FinishReferenceIdeal.Gen.frame m ρ, fun m ρ _ => Cert.ProductsProof.frame m ρ,
    fun m ρ _ => Cert.ProductsProof.frame_ideal m ρ, fun m ρ _ => Cert.ProductsReferenceIdeal.Gen.frame m ρ,
    trivial, Cert.FinishProof.algebraic, trivial, Cert.ProductsProof.algebraic⟩

end Cert.Proof

end
